-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales [hPre_scales : Cert.Pre_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales [hPre_scales : Cert.Pre_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales [hKernelIdeal : Cert.KernelIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales [hReferenceIdeal : Cert.ReferenceIdeal.Facts] [hPre_scales : Cert.Pre_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_scales [hKernelIdeal : Cert.KernelIdeal.Facts] [hReferenceIdeal : Cert.ReferenceIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales : Cert.Pre_scales.Facts),
    quiescent_Kernel (hKernel := hKernel)
    ∧ quiescent_KernelIdeal (hKernelIdeal := hKernelIdeal)
    ∧ quiescent_KernelIdeal_pre_scales (hKernelIdeal := hKernelIdeal) (hPre_scales := hPre_scales)
    ∧ quiescent_ReferenceIdeal (hReferenceIdeal := hReferenceIdeal)
    ∧ quiescent_ReferenceIdeal_pre_scales (hReferenceIdeal := hReferenceIdeal) (hPre_scales := hPre_scales)
    ∧ preserves_Kernel_KernelIdeal
    ∧ algebraic_KernelIdeal_ReferenceIdeal_pre_scales (hKernelIdeal := hKernelIdeal) (hReferenceIdeal := hReferenceIdeal) (hPre_scales := hPre_scales)
-- ==== Pre_scales.lean ====
abbrev S2x384x16x576 : Shape := ⟨4, ![2, 384, 16, 576]⟩
abbrev S2x384x16 : Shape := ⟨3, ![2, 384, 16]⟩
abbrev S2x384x512 : Shape := ⟨3, ![2, 384, 512]⟩
abbrev S2x384 : Shape := ⟨2, ![2, 384]⟩
abbrev S2x384x64 : Shape := ⟨3, ![2, 384, 64]⟩
abbrev S2x384x16x512 : Shape := ⟨4, ![2, 384, 16, 512]⟩
abbrev S_ : Shape := ⟨0, ![]⟩

class Facts : Prop where
  bcast_S_S2x384x16 : S_.BroadcastsInDim S2x384x16 (![] : Fin 0 → Fin S2x384x16.rank)
  reducesTo_S2x384x16_S_d0_1_2 : S2x384x16.ReducesTo [0, 1, 2] S_
  h_S_ : 0 < S_.numel
  bcast_S_S2x384 : S_.BroadcastsInDim S2x384 (![] : Fin 0 → Fin S2x384.rank)
  reducesTo_S2x384_S_d0_1 : S2x384.ReducesTo [0, 1] S_

variable [Facts]

def fn {F : FTy → Type} [FloatOps F] (main_arg0 : FVec F S2x384x16x576 .fp8e4m3) (main_arg1 : FVec F S2x384x16 .f32) (main_arg2 : FVec F S2x384x512 .fp8e4m3) (main_arg3 : FVec F S2x384 .f32) (main_arg4 : FVec F S2x384x64 .bf16) (main_arg5 : FVec F S2x384x16x512 .bf16) (main_arg6 : FVec F S2x384x16 .f32) (main_arg7 : IVec S2x384x16x512 8) (main_arg8 : FVec F S2x384 .f32) : IVec S_ 1 :=
  let main_cst : FVec F S_ .f32 := constant S_ .f32 0x00000000#32
  let main_v0 : FVec F S2x384x16 .f32 := broadcastInDim S2x384x16 ![] bcast_S_S2x384x16 main_cst
  let main_v1 : IVec S2x384x16 1 := cmpf .oge main_arg1 main_v0
  let main_cst_0 : FVec F S_ .f32 := constant S_ .f32 0x7F800000#32
  let main_v2 : FVec F S2x384x16 .f32 := broadcastInDim S2x384x16 ![] bcast_S_S2x384x16 main_cst_0
  let main_v3 : IVec S2x384x16 1 := cmpf .olt main_arg1 main_v2
  let main_v4 : IVec S2x384x16 1 := andi main_v1 main_v3
  let main_c : IVec S_ 1 := constantI S_ 1 1#1
  let main_v5 : IVec S_ 1 := (fun x v => Host.reduce IntOp.andi x v reducesTo_S2x384x16_S_d0_1_2 h_S_) main_v4 main_c
  let main_cst_1 : FVec F S_ .f32 := constant S_ .f32 0x00000000#32
  let main_v6 : FVec F S2x384 .f32 := broadcastInDim S2x384 ![] bcast_S_S2x384 main_cst_1
  let main_v7 : IVec S2x384 1 := cmpf .oge main_arg8 main_v6
  let main_cst_2 : FVec F S_ .f32 := constant S_ .f32 0x7F800000#32
  let main_v8 : FVec F S2x384 .f32 := broadcastInDim S2x384 ![] bcast_S_S2x384 main_cst_2
  let main_v9 : IVec S2x384 1 := cmpf .olt main_arg8 main_v8
  let main_v10 : IVec S2x384 1 := andi main_v7 main_v9
  let main_c_3 : IVec S_ 1 := constantI S_ 1 1#1
  let main_v11 : IVec S_ 1 := (fun x v => Host.reduce IntOp.andi x v reducesTo_S2x384_S_d0_1 h_S_) main_v10 main_c_3
  let main_v12 : IVec S_ 1 := andi main_v5 main_v11
  main_v12
-- ==== Kernel.lean ====
abbrev S2x384x16x576 : Shape := ⟨4, ![2, 384, 16, 576]⟩
abbrev S2x384x16 : Shape := ⟨3, ![2, 384, 16]⟩
abbrev S2x384x512 : Shape := ⟨3, ![2, 384, 512]⟩
abbrev S2x384 : Shape := ⟨2, ![2, 384]⟩
abbrev S2x384x64 : Shape := ⟨3, ![2, 384, 64]⟩
abbrev S2x384x16x512 : Shape := ⟨4, ![2, 384, 16, 512]⟩
abbrev S2x16x576x384 : Shape := ⟨4, ![2, 16, 576, 384]⟩
abbrev S2x16x384 : Shape := ⟨3, ![2, 16, 384]⟩
abbrev S2x64x384 : Shape := ⟨3, ![2, 64, 384]⟩
abbrev S2x384x2x8x4x128 : Shape := ⟨6, ![2, 384, 2, 8, 4, 128]⟩
abbrev S2x384x2x4x8x128 : Shape := ⟨6, ![2, 384, 2, 4, 8, 128]⟩
abbrev S768x2x32x128 : Shape := ⟨4, ![768, 2, 32, 128]⟩
abbrev S1x8x576x128 : Shape := ⟨4, ![1, 8, 576, 128]⟩
abbrev S1x8x128 : Shape := ⟨3, ![1, 8, 128]⟩
abbrev S1x384x512 : Shape := ⟨3, ![1, 384, 512]⟩
abbrev S1x64x384 : Shape := ⟨3, ![1, 64, 384]⟩
abbrev S128x1x32x128 : Shape := ⟨4, ![128, 1, 32, 128]⟩
abbrev S576x384 : Shape := ⟨2, ![576, 384]⟩
abbrev S384x64 : Shape := ⟨2, ![384, 64]⟩
abbrev S384x128 : Shape := ⟨2, ![384, 128]⟩
abbrev S1152x128 : Shape := ⟨2, ![1152, 128]⟩
abbrev S8x128 : Shape := ⟨2, ![8, 128]⟩
abbrev S2x384x256 : Shape := ⟨3, ![2, 384, 256]⟩
abbrev S1x384 : Shape := ⟨2, ![1, 384]⟩
abbrev S1x128 : Shape := ⟨2, ![1, 128]⟩
abbrev S128x128 : Shape := ⟨2, ![128, 128]⟩
abbrev S1x64x128 : Shape := ⟨3, ![1, 64, 128]⟩
abbrev S64x128 : Shape := ⟨2, ![64, 128]⟩
abbrev S128x64 : Shape := ⟨2, ![128, 64]⟩
abbrev S1x128x128 : Shape := ⟨3, ![1, 128, 128]⟩
abbrev S64x384 : Shape := ⟨2, ![64, 384]⟩
abbrev S1x1x32x128 : Shape := ⟨4, ![1, 1, 32, 128]⟩
abbrev S32x128 : Shape := ⟨2, ![32, 128]⟩
abbrev S8 : Shape := ⟨1, ![8]⟩
abbrev S8x1 : Shape := ⟨2, ![8, 1]⟩
abbrev S1x1x128 : Shape := ⟨3, ![1, 1, 128]⟩
abbrev S1x256 : Shape := ⟨2, ![1, 256]⟩
abbrev S16x256 : Shape := ⟨2, ![16, 256]⟩
abbrev S1x1x576x128 : Shape := ⟨4, ![1, 1, 576, 128]⟩
abbrev S576x128 : Shape := ⟨2, ![576, 128]⟩
abbrev S576x256 : Shape := ⟨2, ![576, 256]⟩
abbrev S32x512 : Shape := ⟨2, ![32, 512]⟩
abbrev S128x512 : Shape := ⟨2, ![128, 512]⟩
abbrev S256x512 : Shape := ⟨2, ![256, 512]⟩
abbrev S1x128x512 : Shape := ⟨3, ![1, 128, 512]⟩
abbrev S512x256 : Shape := ⟨2, ![512, 256]⟩
abbrev S128x256 : Shape := ⟨2, ![128, 256]⟩
abbrev S64x256 : Shape := ⟨2, ![64, 256]⟩
abbrev S32x256 : Shape := ⟨2, ![32, 256]⟩
abbrev S1x32x256 : Shape := ⟨3, ![1, 32, 256]⟩
abbrev S2x16x256 : Shape := ⟨3, ![2, 16, 256]⟩
abbrev S1x16x256 : Shape := ⟨3, ![1, 16, 256]⟩
abbrev S1x128x256 : Shape := ⟨3, ![1, 128, 256]⟩
abbrev S1x256x512 : Shape := ⟨3, ![1, 256, 512]⟩
abbrev S256x256 : Shape := ⟨2, ![256, 256]⟩
abbrev S256x64 : Shape := ⟨2, ![256, 64]⟩
abbrev S1x256x256 : Shape := ⟨3, ![1, 256, 256]⟩
abbrev S1x64x256 : Shape := ⟨3, ![1, 64, 256]⟩
abbrev S384x512 : Shape := ⟨2, ![384, 512]⟩
abbrev S384x256 : Shape := ⟨2, ![384, 256]⟩
abbrev S1x384x256 : Shape := ⟨3, ![1, 384, 256]⟩

abbrev nBuf : Space → Nat
  | .hbm => 22
  | .vmem => 30
  | .smem => 0
  | _ => 0

abbrev bufTy : (tb : Table) → Fin (tcTables nBuf tb) → BufTy
  | .hbm, ⟨0, _⟩ => ⟨S2x384x16x576, .fp8e4m3⟩
  | .hbm, ⟨1, _⟩ => ⟨S2x384x16, .f32⟩
  | .hbm, ⟨2, _⟩ => ⟨S2x384x512, .fp8e4m3⟩
  | .hbm, ⟨3, _⟩ => ⟨S2x384, .f32⟩
  | .hbm, ⟨4, _⟩ => ⟨S2x384x64, .bf16⟩
  | .hbm, ⟨5, _⟩ => ⟨S2x384x16x512, .bf16⟩
  | .hbm, ⟨6, _⟩ => ⟨S2x384x16, .f32⟩
  | .hbm, ⟨7, _⟩ => ⟨S2x384x16x512, .i8⟩
  | .hbm, ⟨8, _⟩ => ⟨S2x384, .f32⟩
  | .hbm, ⟨9, _⟩ => ⟨S2x16x576x384, .fp8e4m3⟩
  | .hbm, ⟨10, _⟩ => ⟨S2x16x384, .f32⟩
  | .hbm, ⟨11, _⟩ => ⟨S2x16x384, .f32⟩
  | .hbm, ⟨12, _⟩ => ⟨S2x64x384, .bf16⟩
  | .hbm, ⟨13, _⟩ => ⟨S2x384x2x8x4x128, .bf16⟩
  | .hbm, ⟨14, _⟩ => ⟨S2x384x2x4x8x128, .bf16⟩
  | .hbm, ⟨15, _⟩ => ⟨S768x2x32x128, .bf16⟩
  | .hbm, ⟨16, _⟩ => ⟨S2x384x2x8x4x128, .i8⟩
  | .hbm, ⟨17, _⟩ => ⟨S2x384x2x4x8x128, .i8⟩
  | .hbm, ⟨18, _⟩ => ⟨S768x2x32x128, .i8⟩
  | .hbm, ⟨19, _⟩ => ⟨S2x16x576x384, .bf16⟩
  | .hbm, ⟨20, _⟩ => ⟨S2x384x512, .f32⟩
  | .hbm, ⟨21, _⟩ => ⟨S2x64x384, .f32⟩
  | .local _ .vmem, ⟨0, _⟩ => ⟨S1x8x576x128, .fp8e4m3⟩
  | .local _ .vmem, ⟨1, _⟩ => ⟨S1x8x576x128, .fp8e4m3⟩
  | .local _ .vmem, ⟨2, _⟩ => ⟨S1x8x128, .f32⟩
  | .local _ .vmem, ⟨3, _⟩ => ⟨S1x8x128, .f32⟩
  | .local _ .vmem, ⟨4, _⟩ => ⟨S1x384x512, .fp8e4m3⟩
  | .local _ .vmem, ⟨5, _⟩ => ⟨S1x384x512, .fp8e4m3⟩
  | .local _ .vmem, ⟨6, _⟩ => ⟨S2x384, .f32⟩
  | .local _ .vmem, ⟨7, _⟩ => ⟨S1x64x384, .bf16⟩
  | .local _ .vmem, ⟨8, _⟩ => ⟨S1x64x384, .bf16⟩
  | .local _ .vmem, ⟨9, _⟩ => ⟨S128x1x32x128, .bf16⟩
  | .local _ .vmem, ⟨10, _⟩ => ⟨S128x1x32x128, .bf16⟩
  | .local _ .vmem, ⟨11, _⟩ => ⟨S1x8x128, .f32⟩
  | .local _ .vmem, ⟨12, _⟩ => ⟨S1x8x128, .f32⟩
  | .local _ .vmem, ⟨13, _⟩ => ⟨S128x1x32x128, .i8⟩
  | .local _ .vmem, ⟨14, _⟩ => ⟨S128x1x32x128, .i8⟩
  | .local _ .vmem, ⟨15, _⟩ => ⟨S2x384, .f32⟩
  | .local _ .vmem, ⟨16, _⟩ => ⟨S1x8x576x128, .bf16⟩
  | .local _ .vmem, ⟨17, _⟩ => ⟨S1x8x576x128, .bf16⟩
  | .local _ .vmem, ⟨18, _⟩ => ⟨S1x384x512, .f32⟩
  | .local _ .vmem, ⟨19, _⟩ => ⟨S1x384x512, .f32⟩
  | .local _ .vmem, ⟨20, _⟩ => ⟨S1x64x384, .f32⟩
  | .local _ .vmem, ⟨21, _⟩ => ⟨S1x64x384, .f32⟩
  | .local _ .vmem, ⟨22, _⟩ => ⟨S576x384, .bf16⟩
  | .local _ .vmem, ⟨23, _⟩ => ⟨S384x64, .bf16⟩
  | .local _ .vmem, ⟨24, _⟩ => ⟨S384x128, .f32⟩
  | .local _ .vmem, ⟨25, _⟩ => ⟨S1152x128, .i32⟩
  | .local _ .vmem, ⟨26, _⟩ => ⟨S8x128, .f32⟩
  | .local _ .vmem, ⟨27, _⟩ => ⟨S2x384x256, .bf16⟩
  | .local _ .vmem, ⟨28, _⟩ => ⟨S2x384x256, .bf16⟩
  | .local _ .vmem, ⟨29, _⟩ => ⟨S2x384x256, .bf16⟩
  | _, _ => ⟨S2x384x16x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_5 : BitVec 32 := 0#32
  let v13 : BitVec 1 := Scalar.cmpi .ne v12 c0_i32_5
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x576x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x64x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S128x1x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x1x32x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S2x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8x576x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x64x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S2x384x16x576 : Shape := ⟨4, ![2, 384, 16, 576]⟩
abbrev S2x384x16 : Shape := ⟨3, ![2, 384, 16]⟩
abbrev S2x384x512 : Shape := ⟨3, ![2, 384, 512]⟩
abbrev S2x384 : Shape := ⟨2, ![2, 384]⟩
abbrev S2x384x64 : Shape := ⟨3, ![2, 384, 64]⟩
abbrev S2x384x16x512 : Shape := ⟨4, ![2, 384, 16, 512]⟩
abbrev S2x384x1 : Shape := ⟨3, ![2, 384, 1]⟩
abbrev S2x384x576 : Shape := ⟨3, ![2, 384, 576]⟩
abbrev S2x384x1x1 : Shape := ⟨4, ![2, 384, 1, 1]⟩
abbrev S_ : Shape := ⟨0, ![]⟩
abbrev S2x16x384 : Shape := ⟨3, ![2, 16, 384]⟩
abbrev S2x16x384x1 : Shape := ⟨4, ![2, 16, 384, 1]⟩
abbrev S2x1x384x1 : Shape := ⟨4, ![2, 1, 384, 1]⟩
abbrev S2x1x1x384 : Shape := ⟨4, ![2, 1, 1, 384]⟩
abbrev S2x384x384x16 : Shape := ⟨4, ![2, 384, 384, 16]⟩
abbrev S2x16x384x384 : Shape := ⟨4, ![2, 16, 384, 384]⟩
abbrev S2x384x16x64 : Shape := ⟨4, ![2, 384, 16, 64]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S2x1x384x384 : Shape := ⟨4, ![2, 1, 384, 384]⟩
abbrev S2x576x16x384 : Shape := ⟨4, ![2, 576, 16, 384]⟩
abbrev S2x16x576x384 : Shape := ⟨4, ![2, 16, 576, 384]⟩

abbrev nBuf : Space → Nat
  | .hbm => 83
  | .vmem => 6
  | .smem => 0
  | _ => 0

abbrev bufTy : (tb : Table) → Fin (tcTables nBuf tb) → BufTy
  | .hbm, ⟨0, _⟩ => ⟨S2x384x16x576, .fp8e4m3⟩
  | .hbm, ⟨1, _⟩ => ⟨S2x384x16, .f32⟩
  | .hbm, ⟨2, _⟩ => ⟨S2x384x512, .fp8e4m3⟩
  | .hbm, ⟨3, _⟩ => ⟨S2x384, .f32⟩
  | .hbm, ⟨4, _⟩ => ⟨S2x384x64, .bf16⟩
  | .hbm, ⟨5, _⟩ => ⟨S2x384x16x512, .bf16⟩
  | .hbm, ⟨6, _⟩ => ⟨S2x384x16, .f32⟩
  | .hbm, ⟨7, _⟩ => ⟨S2x384x16x512, .i8⟩
  | .hbm, ⟨8, _⟩ => ⟨S2x384, .f32⟩
  | .hbm, ⟨9, _⟩ => ⟨S2x384x16x576, .bf16⟩
  | .hbm, ⟨10, _⟩ => ⟨S2x384x512, .bf16⟩
  | .hbm, ⟨11, _⟩ => ⟨S2x384x16x512, .bf16⟩
  | .hbm, ⟨12, _⟩ => ⟨S2x384, .bf16⟩
  | .hbm, ⟨13, _⟩ => ⟨S2x384x1, .bf16⟩
  | .hbm, ⟨14, _⟩ => ⟨S2x384x512, .bf16⟩
  | .hbm, ⟨15, _⟩ => ⟨S2x384x512, .bf16⟩
  | .hbm, ⟨16, _⟩ => ⟨S2x384x576, .bf16⟩
  | .hbm, ⟨17, _⟩ => ⟨S2x384x16x512, .f32⟩
  | .hbm, ⟨18, _⟩ => ⟨S2x384x1x1, .f32⟩
  | .hbm, ⟨19, _⟩ => ⟨S2x384x16x512, .f32⟩
  | .hbm, ⟨20, _⟩ => ⟨S2x384x16x512, .f32⟩
  | .hbm, ⟨21, _⟩ => ⟨S2x384x16x512, .f32⟩
  | .hbm, ⟨22, _⟩ => ⟨S2x384x16x512, .f32⟩
  | .hbm, ⟨23, _⟩ => ⟨S_, .f32⟩
  | .hbm, ⟨24, _⟩ => ⟨S2x384x16, .f32⟩
  | .hbm, ⟨25, _⟩ => ⟨S2x16x384, .f32⟩
  | .hbm, ⟨26, _⟩ => ⟨S2x16x384x1, .f32⟩
  | .hbm, ⟨27, _⟩ => ⟨S2x1x384x1, .f32⟩
  | .hbm, ⟨28, _⟩ => ⟨S2x1x1x384, .f32⟩
  | .hbm, ⟨29, _⟩ => ⟨S2x16x384, .f32⟩
  | .hbm, ⟨30, _⟩ => ⟨S2x16x384x1, .f32⟩
  | .hbm, ⟨31, _⟩ => ⟨S2x16x384, .f32⟩
  | .hbm, ⟨32, _⟩ => ⟨S2x16x384x1, .f32⟩
  | .hbm, ⟨33, _⟩ => ⟨S2x384x16x512, .bf16⟩
  | .hbm, ⟨34, _⟩ => ⟨S2x384x384x16, .f32⟩
  | .hbm, ⟨35, _⟩ => ⟨S2x16x384x384, .f32⟩
  | .hbm, ⟨36, _⟩ => ⟨S2x16x384x384, .f32⟩
  | .hbm, ⟨37, _⟩ => ⟨S2x16x384x384, .f32⟩
  | .hbm, ⟨38, _⟩ => ⟨S2x16x384x384, .f32⟩
  | .hbm, ⟨39, _⟩ => ⟨S2x16x384x384, .f32⟩
  | .hbm, ⟨40, _⟩ => ⟨S2x384x16x64, .bf16⟩
  | .hbm, ⟨41, _⟩ => ⟨S2x384x384x16, .f32⟩
  | .hbm, ⟨42, _⟩ => ⟨S2x16x384x384, .f32⟩
  | .hbm, ⟨43, _⟩ => ⟨S2x16x384x384, .f32⟩
  | .hbm, ⟨44, _⟩ => ⟨S2x16x384x384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x16x384x384, .f32⟩
  | .hbm, ⟨50, _⟩ => ⟨S2x16x384x384, .f32⟩
  | .hbm, ⟨51, _⟩ => ⟨S2x16x384x384, .f32⟩
  | .hbm, ⟨52, _⟩ => ⟨S384, .i32⟩
  | .hbm, ⟨53, _⟩ => ⟨S1x384, .i32⟩
  | .hbm, ⟨54, _⟩ => ⟨S384x1, .i32⟩
  | .hbm, ⟨55, _⟩ => ⟨S384x384, .i32⟩
  | .hbm, ⟨56, _⟩ => ⟨S384x384, .i32⟩
  | .hbm, ⟨57, _⟩ => ⟨S384x384, .i1⟩
  | .hbm, ⟨58, _⟩ => ⟨S2x16x384x384, .f32⟩
  | .hbm, ⟨59, _⟩ => ⟨S2x16x384x384, .f32⟩
  | .hbm, ⟨60, _⟩ => ⟨S2x16x384x384, .f32⟩
  | .hbm, ⟨61, _⟩ => ⟨S_, .f32⟩
  | .hbm, ⟨62, _⟩ => ⟨S_, .f32⟩
  | .hbm, ⟨63, _⟩ => ⟨S2x16x384x384, .i1⟩
  | .hbm, ⟨64, _⟩ => ⟨S2x16x384x384, .f32⟩
  | .hbm, ⟨65, _⟩ => ⟨S2x16x384x384, .f32⟩
  | .hbm, ⟨66, _⟩ => ⟨S2x384x384x16, .f32⟩
  | .hbm, ⟨67, _⟩ => ⟨S2x16x384x384, .f32⟩
  | .hbm, ⟨68, _⟩ => ⟨S2x1x384x384, .f32⟩
  | .hbm, ⟨69, _⟩ => ⟨S2x1x384x384, .f32⟩
  | .hbm, ⟨70, _⟩ => ⟨S2x1x384x384, .f32⟩
  | .hbm, ⟨71, _⟩ => ⟨S2x16x384x384, .f32⟩
  | .hbm, ⟨72, _⟩ => ⟨S2x16x384x384, .f32⟩
  | .hbm, ⟨73, _⟩ => ⟨S2x16x384x384, .f32⟩
  | .hbm, ⟨74, _⟩ => ⟨S2x16x384x384, .f32⟩
  | .hbm, ⟨75, _⟩ => ⟨S2x16x384x384, .f32⟩
  | .hbm, ⟨76, _⟩ => ⟨S2x16x384x384, .f32⟩
  | .hbm, ⟨77, _⟩ => ⟨S2x16x384x384, .f32⟩
  | .hbm, ⟨78, _⟩ => ⟨S2x16x384x384, .bf16⟩
  | .hbm, ⟨79, _⟩ => ⟨S2x576x16x384, .f32⟩
  | .hbm, ⟨80, _⟩ => ⟨S2x384x16x576, .f32⟩
  | .hbm, ⟨81, _⟩ => ⟨S2x384x16x576, .bf16⟩
  | .hbm, ⟨82, _⟩ => ⟨S2x16x576x384, .bf16⟩
  | .local _ .vmem, ⟨0, _⟩ => ⟨S2x384x16x576, .fp8e4m3⟩
  | .local _ .vmem, ⟨1, _⟩ => ⟨S2x384x512, .fp8e4m3⟩
  | .local _ .vmem, ⟨2, _⟩ => ⟨S2x384x16x512, .i8⟩
  | .local _ .vmem, ⟨3, _⟩ => ⟨S2x384x16x576, .bf16⟩
  | .local _ .vmem, ⟨4, _⟩ => ⟨S2x384x512, .bf16⟩
  | .local _ .vmem, ⟨5, _⟩ => ⟨S2x384x16x512, .bf16⟩
  | _, _ => ⟨S2x384x16x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x384x16x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x16x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384x16x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384x16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Frame.Kernel.Runs.lean ====
/- What the runs of `Kernel` share: @main up to its region, the contents there, the blocks, the conditions of each case. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points whose coordinates have i1 = 0 — by arithmetic of the point. -/
theorem hcond0_1 : ∀ t : Fin cfg0.N, cond0_1 (grid0.coords t) ↔ t.val / 2 % 3 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 3 = 0)

/-- The condition of the body's `scf.if` 2 (`k0_h3`), from the grid coordinates (the skeleton's scalar
    chain substituted). -/
abbrev cond0_2 (i : grid0.Coords) : Prop := k0_cond3 i = 1#1
/-- It holds at the points whose coordinates have i1 = 1 — by arithmetic of the point. -/
theorem hcond0_2 : ∀ t : Fin cfg0.N, cond0_2 (grid0.coords t) ↔ t.val / 2 % 3 = 1 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ t.val / 2 % 3 = 1)

/-- The condition of the body's `scf.if` 3 (`k0_h4`), from the grid coordinates (the skeleton's scalar
    chain substituted). -/
abbrev cond0_3 (i : grid0.Coords) : Prop := k0_cond4 i = 1#1
/-- It holds at the points whose coordinates have i1 = 2 — by arithmetic of the point. -/
theorem hcond0_3 : ∀ t : Fin cfg0.N, cond0_3 (grid0.coords t) ↔ t.val / 2 % 3 = 2 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_3, k0_cond4, e0, e1, e2]
    word_cmp
   : ∀ t : Fin grid0.N, cond0_3 (grid0.coords t) ↔ t.val / 2 % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x576x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1x32x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1x32x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x576x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x384 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x384 .bf16 := Memref.whole cc0_scratch0
abbrev scM0_1 : Memref sig .tc .vmem S384x64 .bf16 := Memref.whole cc0_scratch1
abbrev scM0_2 : Memref sig .tc .vmem S384x128 .f32 := Memref.whole cc0_scratch2
abbrev scM0_3 : Memref sig .tc .vmem S1152x128 .i32 := Memref.whole cc0_scratch3
abbrev scM0_4 : Memref sig .tc .vmem S8x128 .f32 := Memref.whole cc0_scratch4
abbrev scM0_5 : Memref sig .tc .vmem S2x384x256 .bf16 := Memref.whole cc0_scratch5
abbrev scM0_6 : Memref sig .tc .vmem S2x384x256 .bf16 := Memref.whole cc0_scratch6
abbrev scM0_7 : Memref sig .tc .vmem S2x384x256 .bf16 := Memref.whole cc0_scratch7
/-- The scratch `arg16` the kernel carries between points, as a view: what it holds is stated through it. -/
abbrev VS0_1 : View sig .tc .vmem S384x64 .bf16 := scM0_1.view
/-- The scratch `arg17` the kernel carries between points, as a view: what it holds is stated through it. -/
abbrev VS0_2 : View sig .tc .vmem S384x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.Frame.Kernel.RunA.lean ====
/- The whole-body run of `Kernel` in case A. -/
module

public import proofs.«01_k».proof.Proof.Frame.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5944000 in set_option sl_exec.stridedRows true in
/-- What the body's stores leave in each output's staging memref, as pieces (last first) IN CASE A (`scf.if` 0 taken, `scf.if` 1 taken, `scf.if` 2 not taken, `scf.if` 3 not taken: points 0, 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11) at anything, handed back at some contents nothing names. -/
noncomputable def kernelRun0_A (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) :
    Σ' (LS1 : List (View.Piece (Elt F) S384x64 .bf16)), { LS2 : List (View.Piece (Elt F) S384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_mla_bwd_eq_skeleton]; unfold cc0_mla_bwd_skel
    simp only [k0_part1_eq_skeleton, k0_part2_eq_skeleton, k0_part3_eq_skeleton, k0_part4_eq_skeleton, k0_part5_eq_skeleton, k0_part146_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part147_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Frame.Kernel.RunB.lean ====
/- The whole-body run of `Kernel` in case B. -/
module

public import proofs.«01_k».proof.Proof.Frame.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5588000 in set_option sl_exec.stridedRows true in
/-- What the body's stores leave in each output's staging memref, as pieces (last first) IN CASE B (`scf.if` 0 not taken, `scf.if` 1 taken, `scf.if` 2 not taken, `scf.if` 3 not taken: points 1, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11) at anything, handed back at some contents nothing names. -/
noncomputable def kernelRun0_B (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) :
    Σ' (LS1 : List (View.Piece (Elt F) S384x64 .bf16)), { LS2 : List (View.Piece (Elt F) S384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], [], fun E K => ?run⟩
  case run =>
    simp only [cc0_mla_bwd_eq_skeleton]; unfold cc0_mla_bwd_skel
    simp only [k0_part146_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part147_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Frame.Kernel.RunC.lean ====
/- The whole-body run of `Kernel` in case C. -/
module

public import proofs.«01_k».proof.Proof.Frame.Kernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6372000 in set_option sl_exec.stridedRows true in
/-- What the body's stores leave in each output's staging memref, as pieces (last first) IN CASE C (`scf.if` 0 not taken, `scf.if` 1 not taken, `scf.if` 2 taken, `scf.if` 3 not taken: points 2, 3, 8, 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11) at anything, handed back at some contents nothing names. -/
noncomputable def kernelRun0_C (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) :
    Σ' (LS1 : List (View.Piece (Elt F) S384x64 .bf16)), { LS2 : List (View.Piece (Elt F) S384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], [], fun E K => ?run⟩
  case run =>
    simp only [cc0_mla_bwd_eq_skeleton]; unfold cc0_mla_bwd_skel
    simp only [k0_part301_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part302_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part303_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Frame.Kernel.RunD.lean ====
/- The whole-body run of `Kernel` in case D: the conditions are decided before the parts are replaced by
   their skeletons, so that nothing is rewritten in the branches not taken. -/
module

public import proofs.«01_k».proof.Proof.Frame.Kernel.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7096000 in set_option sl_exec.stridedRows true in
/-- What the body's stores leave in each output's staging memref, as pieces (last first) IN CASE D (`scf.if` 0 not taken, `scf.if` 1 not taken, `scf.if` 2 not taken, `scf.if` 3 taken: points 4, 5, 10, 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11) at anything, handed back at some contents nothing names. -/
noncomputable def kernelRun0_D (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : ¬cond0_2 i) (hc3 : cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) :
    Σ' (LS1 : List (View.Piece (Elt F) S384x64 .bf16)), { LS2 : List (View.Piece (Elt F) S384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], [], fun E K => ?run⟩
  case run =>
    simp only [cc0_mla_bwd_eq_skeleton]; unfold cc0_mla_bwd_skel
    rw [dif_neg (show ¬ k0_cond1 i = 1#1 from hc0), dif_neg (show ¬ k0_cond2 i = 1#1 from hc1), dif_neg (show ¬ k0_cond3 i = 1#1 from hc2), dif_pos (show k0_cond4 i = 1#1 from hc3)]
    simp only [k0_part471_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part472_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part473_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Frame.Kernel.Frame.lean ====
/- The frame of `Kernel` with the outputs' contents left unstated. -/
module

public import proofs.«01_k».proof.Proof.Frame.Kernel.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg16`, which the kernel carries between points, cover it: 3 pieces of `S128x64` tiling it (Lib/Ring.lean `Piece.tiledL`). -/
theorem scover0_A_1 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (y : S384x64.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1 S128x64.size (by sl_kernel_rfl) y

/-- What case A leaves in scratch `arg16`: its pieces read back over junk. -/
def sout0_A_1 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) : Vec F S384x64 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1)

/-- Case A's pieces for scratch `arg17`, which the kernel carries between points, cover it: 3 pieces of `S128x128` tiling it (Lib/Ring.lean `Piece.tiledL`). -/
theorem scover0_A_2 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (y : S384x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).2.1 S128x128.size (by sl_kernel_rfl) y

/-- What case A leaves in scratch `arg17`: its pieces read back over junk. -/
def sout0_A_2 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) : Vec F S384x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).2.1)

/-- Case B stores nothing into scratch `arg16`: it holds what the point before left. -/
def sout0_B_1 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x64 .bf16 := xs1

/-- Case B stores nothing into scratch `arg17`: it holds what the point before left. -/
def sout0_B_2 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x128 .f32 := xs2

/-- Case C stores nothing into scratch `arg16`: it holds what the point before left. -/
def sout0_C_1 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x64 .bf16 := xs1

/-- Case C stores nothing into scratch `arg17`: it holds what the point before left. -/
def sout0_C_2 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x128 .f32 := xs2

/-- Case D stores nothing into scratch `arg16`: it holds what the point before left. -/
def sout0_D_1 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : ¬cond0_2 i) (hc3 : cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x64 .bf16 := xs1

/-- Case D stores nothing into scratch `arg17`: it holds what the point before left. -/
def sout0_D_2 (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : ¬cond0_2 i) (hc3 : cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (xs1 : Vec F S384x64 .bf16) (xs2 : Vec F S384x128 .f32) : Vec F S384x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S384x64 .bf16 × Vec F S384x128 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 6 = 0 then
      if h1 : (n + 1) / 2 % 3 = 0 then
        if h2 : (n + 1) / 2 % 3 = 1 then
          False.elim (by have hN : n + 1 < 12 := lt_of_lt_of_eq hn (show cfg0.N = 12 from N_0); omega)
        else
          if h3 : (n + 1) / 2 % 3 = 2 then
            False.elim (by have hN : n + 1 < 12 := lt_of_lt_of_eq hn (show cfg0.N = 12 from N_0); omega)
          else
            (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        False.elim (by have hN : n + 1 < 12 := lt_of_lt_of_eq hn (show cfg0.N = 12 from N_0); omega)
    else
      if h1 : (n + 1) / 2 % 3 = 0 then
        if h2 : (n + 1) / 2 % 3 = 1 then
          False.elim (by have hN : n + 1 < 12 := lt_of_lt_of_eq hn (show cfg0.N = 12 from N_0); omega)
        else
          if h3 : (n + 1) / 2 % 3 = 2 then
            False.elim (by have hN : n + 1 < 12 := lt_of_lt_of_eq hn (show cfg0.N = 12 from N_0); omega)
          else
            (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2)
      else
        if h2 : (n + 1) / 2 % 3 = 1 then
          if h3 : (n + 1) / 2 % 3 = 2 then
            False.elim (by have hN : n + 1 < 12 := lt_of_lt_of_eq hn (show cfg0.N = 12 from N_0); omega)
          else
            (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2)
        else
          if h3 : (n + 1) / 2 % 3 = 2 then
            (sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2)
          else
            False.elim (by have hN : n + 1 < 12 := lt_of_lt_of_eq hn (show cfg0.N = 12 from N_0); omega)

/-- `outsAt0` at a point of case A: that case's contents. -/
theorem outsAt0_A (c : Dev nD) (t : Fin cfg0.N) (h0 : t.val % 6 = 0) (h1 : t.val / 2 % 3 = 0) (h2 : ¬t.val / 2 % 3 = 1) (h3 : ¬t.val / 2 % 3 = 2) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 6 = 0) (h1 : t.val / 2 % 3 = 0) (h2 : ¬t.val / 2 % 3 = 1) (h3 : ¬t.val / 2 % 3 = 2) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 6 = 0) (h1 : ¬t.val / 2 % 3 = 0) (h2 : t.val / 2 % 3 = 1) (h3 : ¬t.val / 2 % 3 = 2) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 6 = 0) (h1 : ¬t.val / 2 % 3 = 0) (h2 : ¬t.val / 2 % 3 = 1) (h3 : t.val / 2 % 3 = 2) :
    outsAt0 m c t.val t.isLt = (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 6 = 0
  · by_cases h1 : t.val / 2 % 3 = 0
    · by_cases h2 : t.val / 2 % 3 = 1
      · exfalso; omega
      · by_cases h3 : t.val / 2 % 3 = 2
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          by_cases hz : t.val = 0
          · rw [PhiS_castSucc m c t, PhiS_zero m c _ _ hz, PhiA0_eq]
            rw [outsAt0_A m c t h0 h1 h2 h3]
            unfold sout0_A_1 sout0_A_2; (try dsimp only)
            iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            iintro ⟨H0, H1, H2, H3, H4, H5, H6, H7, H8, H9, H10, H11, HS0, ⟨%es1, HS1⟩, ⟨%es2, HS2⟩, HS3, HS4, HS5, HS6, HS7⟩
            isplitl [HS0 HS1 HS2 HS3 HS4 HS5 HS6 HS7 Hg]
            · isplitl [HS0 HS1 HS2 HS3 HS4 HS5 HS6 HS7]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
                isplitl [HS3]
                · iexact HS3
                isplitl [HS4]
                · iexact HS4
                isplitl [HS5]
                · iexact HS5
                isplitl [HS6]
                · iexact HS6
                iexact HS7
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            iexact H11
          · rw [PhiS_castSucc m c t, PhiS_pos m c _ _ hz]
            rw [outsAt0_A m c t h0 h1 h2 h3]
            unfold sout0_A_1 sout0_A_2; (try dsimp only)
            iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexists _; iexact HS1
            isplitl [HS2]; · iexists _; iexact HS2
            isplitl [HS3]; · iexact HS3
            isplitl [HS4]; · iexact HS4
            isplitl [HS5]; · iexact HS5
            isplitl [HS6]; · iexact HS6
            isplitl [HS7]; · iexact HS7
            iintro ⟨H0, H1, H2, H3, H4, H5, H6, H7, H8, H9, H10, H11, HS0, ⟨%es1, HS1⟩, ⟨%es2, HS2⟩, HS3, HS4, HS5, HS6, HS7⟩
            isplitl [HS0 HS1 HS2 HS3 HS4 HS5 HS6 HS7 Hg]
            · isplitl [HS0 HS1 HS2 HS3 HS4 HS5 HS6 HS7]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
                isplitl [HS3]
                · iexact HS3
                isplitl [HS4]
                · iexact HS4
                isplitl [HS5]
                · iexact HS5
                isplitl [HS6]
                · iexact HS6
                iexact HS7
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            iexact H11
    · exfalso; omega
  · by_cases h1 : t.val / 2 % 3 = 0
    · by_cases h2 : t.val / 2 % 3 = 1
      · exfalso; omega
      · by_cases h3 : t.val / 2 % 3 = 2
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          by_cases hz : t.val = 0
          · exfalso; have hN : t.val < 12 := lt_of_lt_of_eq t.isLt (show cfg0.N = 12 from N_0); omega
          · rw [PhiS_castSucc m c t, PhiS_pos m c _ _ hz]
            rw [outsAt0_B m c t h0 h1 h2 h3]
            unfold sout0_B_1 sout0_B_2; (try dsimp only)
            iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            iintro ⟨H0, H1, H2, H3, H4, H5, H6, H7, H8, H9, H10, H11, HS0, HS1, HS2, HS3, HS4, HS5, HS6, HS7⟩
            isplitl [HS0 HS1 HS2 HS3 HS4 HS5 HS6 HS7 Hg]
            · isplitl [HS0 HS1 HS2 HS3 HS4 HS5 HS6 HS7]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                iexact HS7
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            iexact H11
    · by_cases h2 : t.val / 2 % 3 = 1
      · by_cases h3 : t.val / 2 % 3 = 2
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          by_cases hz : t.val = 0
          · exfalso; have hN : t.val < 12 := lt_of_lt_of_eq t.isLt (show cfg0.N = 12 from N_0); omega
          · rw [PhiS_castSucc m c t, PhiS_pos m c _ _ hz]
            rw [outsAt0_C m c t h0 h1 h2 h3]
            unfold sout0_C_1 sout0_C_2; (try dsimp only)
            iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            iintro ⟨H0, H1, H2, H3, H4, H5, H6, H7, H8, H9, H10, H11, HS0, HS1, HS2, HS3, HS4, HS5, HS6, HS7⟩
            isplitl [HS0 HS1 HS2 HS3 HS4 HS5 HS6 HS7 Hg]
            · isplitl [HS0 HS1 HS2 HS3 HS4 HS5 HS6 HS7]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                iexact HS7
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            iexact H11
      · by_cases h3 : t.val / 2 % 3 = 2
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          by_cases hz : t.val = 0
          · exfalso; have hN : t.val < 12 := lt_of_lt_of_eq t.isLt (show cfg0.N = 12 from N_0); omega
          · rw [PhiS_castSucc m c t, PhiS_pos m c _ _ hz]
            rw [outsAt0_D m c t h0 h1 h2 h3]
            unfold sout0_D_1 sout0_D_2; (try dsimp only)
            iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_D c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            iintro ⟨H0, H1, H2, H3, H4, H5, H6, H7, H8, H9, H10, H11, HS0, HS1, HS2, HS3, HS4, HS5, HS6, HS7⟩
            isplitl [HS0 HS1 HS2 HS3 HS4 HS5 HS6 HS7 Hg]
            · isplitl [HS0 HS1 HS2 HS3 HS4 HS5 HS6 HS7]
              · isplitl [HS0]
                · iexact HS0
                isplitl [HS1]
                · iexact HS1
                isplitl [HS2]
                · iexact HS2
                isplitl [HS3]
                · iexact HS3
                isplitl [HS4]
                · iexact HS4
                isplitl [HS5]
                · iexact HS5
                isplitl [HS6]
                · iexact HS6
                iexact HS7
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            iexact H11
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 12 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.Frame.KernelIdeal.Runs.lean ====
/- What the runs of `KernelIdeal` share: @main up to its region, the contents there, the blocks, the conditions of each case. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points whose coordinates have i1 = 0 — by arithmetic of the point. -/
theorem hcond0_1 : ∀ t : Fin cfg0.N, cond0_1 (grid0.coords t) ↔ t.val / 2 % 3 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 3 = 0)

/-- The condition of the body's `scf.if` 2 (`k0_h3`), from the grid coordinates (the skeleton's scalar
    chain substituted). -/
abbrev cond0_2 (i : grid0.Coords) : Prop := k0_cond3 i = 1#1
/-- It holds at the points whose coordinates have i1 = 1 — by arithmetic of the point. -/
theorem hcond0_2 : ∀ t : Fin cfg0.N, cond0_2 (grid0.coords t) ↔ t.val / 2 % 3 = 1 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ t.val / 2 % 3 = 1)

/-- The condition of the body's `scf.if` 3 (`k0_h4`), from the grid coordinates (the skeleton's scalar
    chain substituted). -/
abbrev cond0_3 (i : grid0.Coords) : Prop := k0_cond4 i = 1#1
/-- It holds at the points whose coordinates have i1 = 2 — by arithmetic of the point. -/
theorem hcond0_3 : ∀ t : Fin cfg0.N, cond0_3 (grid0.coords t) ↔ t.val / 2 % 3 = 2 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 2 % 3 := Pipeline.Grid.coords_val t 1 (by decide) rfl
    have e2 : (grid0.coords t 2).val = t.val / 1 % 2 := Pipeline.Grid.coords_val t 2 (by decide) rfl
    simp only [cond0_3, k0_cond4, e0, e1, e2]
    word_cmp
   : ∀ t : Fin grid0.N, cond0_3 (grid0.coords t) ↔ t.val / 2 % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x576x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1x32x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1x32x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x576x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x384 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x384 .bf16 := Memref.whole cc0_scratch0
abbrev scM0_1 : Memref sig .tc .vmem S384x64 .bf16 := Memref.whole cc0_scratch1
abbrev scM0_2 : Memref sig .tc .vmem S384x128 .f32 := Memref.whole cc0_scratch2
abbrev scM0_3 : Memref sig .tc .vmem S1152x128 .i32 := Memref.whole cc0_scratch3
abbrev scM0_4 : Memref sig .tc .vmem S8x128 .f32 := Memref.whole cc0_scratch4
abbrev scM0_5 : Memref sig .tc .vmem S2x384x256 .bf16 := Memref.whole cc0_scratch5
abbrev scM0_6 : Memref sig .tc .vmem S2x384x256 .bf16 := Memref.whole cc0_scratch6
abbrev scM0_7 : Memref sig .tc .vmem S2x384x256 .bf16 := Memref.whole cc0_scratch7
/-- The scratch `arg16` the kernel carries between points, as a view: what it holds is stated through it. -/
abbrev VS0_1 : View sig .tc .vmem S384x64 .bf16 := scM0_1.view
/-- The scratch `arg17` the kernel carries between points, as a view: what it holds is stated through it. -/
abbrev VS0_2 : View sig .tc .vmem S384x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Val.Words.lean ====
module

public import proofs.«01_k».proof.Proof.Frame.KernelIdeal.Runs
public import Idealize.ShloMosaic.Lib.Pointwise
public import Idealize.ShloMosaic.Lib.BitcastFour

/-! # The byte shuffle of the output gradient

The kernel reads four rows of bytes as one 32-bit word, transposes four words' bytes, and later reads the words as bytes
again. `word4` is the word of four bytes; the theorems say what the kernel's shifts, masks and re-readings make of them. -/

@[expose] public section

set_option maxRecDepth 16384

noncomputable section

namespace Cert.KernelIdeal.Val

open Cert.KernelIdeal.Gen
open Idealize.ShloMosaic Idealize.ShloMosaic.TcCoe

/-- Byte `p` of a word. -/
def byteOf (w : BitVec 32) (p : ℕ) : BitVec 8 := w.extractLsb' (8 * p) 8

/-- Two words with the same four bytes are equal. -/
theorem word_ext {v w : BitVec 32} (h : ∀ j < 4, byteOf v j = byteOf w j) : v = w := by
  apply BitVec.eq_of_getLsbD_eq
  intro q hq
  have := congrArg (fun b => b.getLsbD (q % 8)) (h (q / 8) (by omega))
  simp only [byteOf, BitVec.getLsbD_extractLsb'] at this
  have e : 8 * (q / 8) + q % 8 = q := by omega
  simpa [e, Nat.mod_lt q (by decide : 0 < 8)] using this

/-- A byte of a word is given by its bits. -/
theorem byteOf_getLsbD (w : BitVec 32) (p q : ℕ) : (byteOf w p).getLsbD q = (decide (q < 8) && w.getLsbD (8 * p + q)) := by
  simp [byteOf]

/-- The kernel's transposition of the bytes of four words, its first output: byte 0 of each. -/
def tr0 (a0 a1 a2 a3 : BitVec 32) : BitVec 32 :=
  IntOp.xori (IntOp.ori (IntOp.andi a0 65535#32) (IntOp.shli .vector a2 16#32))
    (IntOp.shli .vector (IntOp.andi (IntOp.xori (IntOp.shrui .vector (IntOp.ori (IntOp.andi a0 65535#32) (IntOp.shli .vector a2 16#32)) 8#32)
      (IntOp.ori (IntOp.andi a1 65535#32) (IntOp.shli .vector a3 16#32))) 16711935#32) 8#32)
/-- Its second output: byte 1 of each. -/
def tr1 (a0 a1 a2 a3 : BitVec 32) : BitVec 32 :=
  IntOp.xori (IntOp.ori (IntOp.andi a1 65535#32) (IntOp.shli .vector a3 16#32))
    (IntOp.andi (IntOp.xori (IntOp.shrui .vector (IntOp.ori (IntOp.andi a0 65535#32) (IntOp.shli .vector a2 16#32)) 8#32)
      (IntOp.ori (IntOp.andi a1 65535#32) (IntOp.shli .vector a3 16#32))) 16711935#32)
/-- Its third output: byte 2 of each. -/
def tr2 (a0 a1 a2 a3 : BitVec 32) : BitVec 32 :=
  IntOp.xori (IntOp.ori (IntOp.shrui .vector a0 16#32) (IntOp.andi a2 4294901760#32))
    (IntOp.shli .vector (IntOp.andi (IntOp.xori (IntOp.shrui .vector (IntOp.ori (IntOp.shrui .vector a0 16#32) (IntOp.andi a2 4294901760#32)) 8#32)
      (IntOp.ori (IntOp.shrui .vector a1 16#32) (IntOp.andi a3 4294901760#32))) 16711935#32) 8#32)
/-- Its fourth output: byte 3 of each. -/
def tr3 (a0 a1 a2 a3 : BitVec 32) : BitVec 32 :=
  IntOp.xori (IntOp.ori (IntOp.shrui .vector a1 16#32) (IntOp.andi a3 4294901760#32))
    (IntOp.andi (IntOp.xori (IntOp.shrui .vector (IntOp.ori (IntOp.shrui .vector a0 16#32) (IntOp.andi a2 4294901760#32)) 8#32)
      (IntOp.ori (IntOp.shrui .vector a1 16#32) (IntOp.andi a3 4294901760#32))) 16711935#32)

/-- Exclusive or twice with the same bit. -/
theorem xor_mid (a b : Bool) : (a ^^ (b ^^ a)) = b := by cases a <;> cases b <;> rfl

/-- The word among four that holds token `j`. -/
def pick (a0 a1 a2 a3 : BitVec 32) : ℕ → BitVec 32
  | 0 => a0 | 1 => a1 | 2 => a2 | _ => a3

theorem tr0_byte (a0 a1 a2 a3 : BitVec 32) (j : ℕ) (hj : j < 4) : byteOf (tr0 a0 a1 a2 a3) j = byteOf (pick a0 a1 a2 a3 j) 0 := by
  apply BitVec.eq_of_getLsbD_eq
  intro q hq
  rw [byteOf_getLsbD, byteOf_getLsbD]
  interval_cases j <;> interval_cases q <;>
    simp [tr0, pick, xor_mid, IntOp.xori, IntOp.ori, IntOp.andi, IntOp.shli, IntOp.shrui]
theorem tr1_byte (a0 a1 a2 a3 : BitVec 32) (j : ℕ) (hj : j < 4) : byteOf (tr1 a0 a1 a2 a3) j = byteOf (pick a0 a1 a2 a3 j) 1 := by
  apply BitVec.eq_of_getLsbD_eq
  intro q hq
  rw [byteOf_getLsbD, byteOf_getLsbD]
  interval_cases j <;> interval_cases q <;>
    simp [tr1, pick, xor_mid, IntOp.xori, IntOp.ori, IntOp.andi, IntOp.shli, IntOp.shrui]
theorem tr2_byte (a0 a1 a2 a3 : BitVec 32) (j : ℕ) (hj : j < 4) : byteOf (tr2 a0 a1 a2 a3) j = byteOf (pick a0 a1 a2 a3 j) 2 := by
  apply BitVec.eq_of_getLsbD_eq
  intro q hq
  rw [byteOf_getLsbD, byteOf_getLsbD]
  interval_cases j <;> interval_cases q <;>
    simp [tr2, pick, xor_mid, IntOp.xori, IntOp.ori, IntOp.andi, IntOp.shli, IntOp.shrui]
theorem tr3_byte (a0 a1 a2 a3 : BitVec 32) (j : ℕ) (hj : j < 4) : byteOf (tr3 a0 a1 a2 a3) j = byteOf (pick a0 a1 a2 a3 j) 3 := by
  apply BitVec.eq_of_getLsbD_eq
  intro q hq
  rw [byteOf_getLsbD, byteOf_getLsbD]
  interval_cases j <;> interval_cases q <;>
    simp [tr3, pick, xor_mid, IntOp.xori, IntOp.ori, IntOp.andi, IntOp.shli, IntOp.shrui]

/-- Words read as bytes: row `i`, lane `l` is byte `i % 4` of the word at row `i / 4`. -/
theorem bitcast_32_8 {R n : ℕ} (x : (⟨2, ![R, n]⟩ : Shape).Idx → BitVec 32) {S : ℕ}
    (h : (⟨2, ![R, n]⟩ : Shape).Bitcasts 32 ⟨2, ![S, n]⟩ 8) (i : Fin S) (l : Fin n) (p : Fin R) (hp : p.val = i.val / 4) :
    bitcast ⟨2, ![S, n]⟩ 8 x h (ix2 i l) = byteOf (x (ix2 p l)) (i.val % 4) := by
  apply BitVec.eq_of_getLsbD_eq
  intro q hq
  rw [bitcast_getLsbD x h _ q hq (by decide), byteOf_getLsbD]
  have er : (⟨2, ![S, n]⟩ : Shape).row (ix2 i l) = i.val := rfl
  have e1 : (i.val * 8 + q) / 32 = i.val / 4 := by omega
  have e2 : (i.val * 8 + q) % 32 = 8 * (i.val % 4) + q := by omega
  have : (h.srcIdx (ix2 i l) (((⟨2, ![S, n]⟩ : Shape).row (ix2 i l) * 8 + q) / 32) (fun a ha => (Nat.div_lt_iff_lt_mul (by decide)).2 (h.pos_lt _ q hq a ha))) = ix2 p l := by
    funext c
    match c with
    | ⟨0, _⟩ => exact Fin.ext ((h.srcIdx_row _ _ _ ⟨0, Nat.zero_lt_two⟩ rfl).trans ((congrArg (· / 32) rfl).trans (e1.trans hp.symm)))
    | ⟨1, _⟩ => exact Fin.ext (h.srcIdx_other _ _ _ ⟨1, Nat.one_lt_two⟩ (by show ¬ 1 + 2 = 2; omega))
  rw [this, er, e2]
  simp [hq]

/-- Bytes read as words: byte `p` of the word at row `a` is row `4a + p`. -/
theorem bitcast_8_32 {R r n : ℕ} (x : (⟨2, ![R, n]⟩ : Shape).Idx → BitVec 8)
    (h : (⟨2, ![R, n]⟩ : Shape).Bitcasts 8 ⟨2, ![r, n]⟩ 32) (a : Fin r) (l : Fin n) (p : ℕ) (hp4 : p < 4) (b : Fin R) (hb : b.val = 4 * a.val + p) :
    byteOf (bitcast ⟨2, ![r, n]⟩ 32 x h (ix2 a l)) p = x (ix2 b l) := by
  apply BitVec.eq_of_getLsbD_eq
  intro q hq
  rw [byteOf_getLsbD]
  have := bitcast_8_32_getLsbD_ix2 x h a l (8 * p + q) (by omega) b (by omega)
  have e : (8 * p + q) % 8 = q := by omega
  rw [e] at this
  simp only [hq, decide_true, Bool.true_and]
  exact this

end Cert.KernelIdeal.Val
-- ==== Proof.Val.Spec.lean ====
module

public import proofs.«01_k».proof.Proof.Val.Words
public import Idealize.ShloMosaic.Lib.Pipeline.ValueKit
public import Idealize.ShloMosaic.Lib.Pipeline.ReadBack

/-! # What one grid point computes, entry by entry

`Blk` holds what one grid point reads, as functions of plain coordinates; `PS`, `G`, `GQ` are the kernel's probabilities,
score gradients and scaled score gradients at head `h`, query `i`, key `j` in the kernel's own order of operations.
A pair of heads is worked on side by side: column `l` of pair `hp` is query `ln l` of head `hd hp l`. -/

@[expose] public section

set_option maxRecDepth 16384

noncomputable section

namespace Cert.KernelIdeal.Val

open Cert.KernelIdeal.Gen
open Idealize.ShloMosaic Idealize.ShloMosaic.TcCoe

/-- The scale times log2 e, as the kernel names it. -/
def cKL : EReal := Named.named (F := Ideal) κ (φ := .f32) "scale_log2e" 0x3DD53B95#32
/-- log2 e, as the kernel names it. -/
def cL : EReal := Named.named (F := Ideal) κ (φ := .f32) "log2e" 0x3FB8AA3B#32
/-- The softmax scale, as the kernel names it. -/
def cS : EReal := Named.named (F := Ideal) κ (φ := .f32) "scale" 0x3D93CD3A#32

/-- What one grid point reads: `k` its block of queries, then its blocks by coordinates. -/
structure Blk where
  k : ℕ
  q : Fin 8 → Fin 576 → Fin 128 → EReal
  qs : Fin 8 → Fin 128 → EReal
  c : Fin 384 → Fin 512 → EReal
  cs : Fin 384 → EReal
  lse : Fin 8 → Fin 128 → EReal
  o : Fin 128 → Fin 32 → Fin 128 → EReal
  dob : Fin 128 → Fin 32 → Fin 128 → BitVec 8
  ds : Fin 128 → EReal
  kt : Fin 576 → Fin 384 → EReal
  kr : Fin 384 → Fin 64 → EReal

/-- The head of column `l` of pair `hp`. -/
def hd (hp : Fin 4) (l : Fin 256) : Fin 8 := ⟨2 * hp.val + l.val / 128, by omega⟩
/-- The query of column `l`. -/
def ln (l : Fin 256) : Fin 128 := ⟨l.val % 128, by omega⟩

namespace Blk
variable (B : Blk)

/-- The output gradient's code at query `i`, head `h`, feature `r`. -/
def dof (h : Fin 8) (i : Fin 128) (r : Fin 512) : EReal :=
  Ideal.ofBits .fp8e5m2 (B.dob i ⟨8 * (r.val / 128) + h.val, by omega⟩ ⟨r.val % 128, by omega⟩)
/-- Code score: the compressed part. -/
def SN (h : Fin 8) (i : Fin 128) (j : Fin 384) : EReal := ∑ r : Fin 512, B.c j r * B.q h ⟨r.val, by omega⟩ i
/-- Code score: the rope part. -/
def SR (h : Fin 8) (i : Fin 128) (j : Fin 384) : EReal := ∑ d : Fin 64, B.kr j d * B.q h ⟨512 + d.val, by omega⟩ i
/-- Code product of the output gradient with the keys. -/
def DP (h : Fin 8) (i : Fin 128) (j : Fin 384) : EReal := ∑ r : Fin 512, B.c j r * B.dof h i r
/-- One product of the row sum of output gradient times output. -/
def dterm (h : Fin 8) (i : Fin 128) (c : Fin 4) (l : Fin 128) : EReal :=
  Ideal.ofBits .fp8e5m2 (B.dob i ⟨8 * c.val + h.val, by omega⟩ l) * B.o i ⟨8 * c.val + h.val, by omega⟩ l
/-- The row sum of output gradient code times output. -/
def DELTA (h : Fin 8) (i : Fin 128) : EReal :=
  ∑ l : Fin 128, ((B.dterm h i 0 l + B.dterm h i 1 l) + (B.dterm h i 2 l + B.dterm h i 3 l))
/-- The probability before the mask. -/
def PX (h : Fin 8) (i : Fin 128) (j : Fin 384) : EReal :=
  Ideal.exp2 ((B.SN h i j * B.cs j + B.SR h i j) * (B.qs h i * cKL) - B.lse h i * cL)
/-- The probability: zero past the query. -/
def P (h : Fin 8) (i : Fin 128) (j : Fin 384) : EReal :=
  if j.val ≤ 128 * B.k + i.val then B.PX h i j else 0
/-- The probability times the output gradient's scale. -/
def PS (h : Fin 8) (i : Fin 128) (j : Fin 384) : EReal := B.P h i j * B.ds i
/-- The score gradient. -/
def G (h : Fin 8) (i : Fin 128) (j : Fin 384) : EReal := B.PS h i j * ((B.DP h i j * B.cs j - B.DELTA h i) * cS)
/-- The score gradient times the query's scale. -/
def GQ (h : Fin 8) (i : Fin 128) (j : Fin 384) : EReal := B.G h i j * B.qs h i

/-- The number of keys a point reads. -/
def ke : ℕ := 128 * (B.k + 1)

/-- dq at head `h`, feature `r`, query `i`: the sum over the point's first `n` keys. -/
def DQ (n : ℕ) (hn : n ≤ 384) (h : Fin 8) (r : Fin 576) (i : Fin 128) : EReal :=
  ∑ j : Fin n, B.kt r ⟨j.val, by omega⟩ * B.G h i ⟨j.val, by omega⟩
/-- What pair `hp` adds to dc at key `j`, feature `r`. -/
def DC (hp : Fin 4) (j : Fin 384) (r : Fin 512) : EReal :=
  (∑ l : Fin 256, B.PS (hd hp l) (ln l) j * B.dof (hd hp l) (ln l) r)
    + ∑ l : Fin 256, B.GQ (hd hp l) (ln l) j * B.q (hd hp l) ⟨r.val, by omega⟩ (ln l)
/-- What pair `hp` adds to dk at rope feature `d`, key `j`. -/
def DK (hp : Fin 4) (d : Fin 64) (j : Fin 384) : EReal :=
  ∑ l : Fin 256, B.q (hd hp l) ⟨512 + d.val, by omega⟩ (ln l) * B.GQ (hd hp l) (ln l) j

end Blk

/-! ## Reading stores back -/

/-- The scratch of a pair, slot `s`: after `n` chunks its first `32 n` rows hold `f`. -/
def RowsOK (f : Fin 384 → Fin 256 → EReal) (s : Fin 2) (n : ℕ) (hn : 32 * n ≤ 384) (L : List (View.Piece (Elt Ideal) S2x384x256 .bf16)) : Prop :=
  ∀ (j : Fin 384) (l : Fin 256), j.val < 32 * n → View.canon (Val := Elt Ideal) L (ix3 s j l) = f j l

theorem rows_zero (f : Fin 384 → Fin 256 → EReal) (s : Fin 2) (L) : RowsOK f s 0 (by omega) L := fun j l h => by omega

/-- One more chunk. -/
theorem rows_step {f : Fin 384 → Fin 256 → EReal} {s : ℕ} {hs : s < 2} {n : ℕ} {hn : 32 * (n + 1) ≤ 384}
    {inb : ∀ a, (![s, 32 * n, 0] : Fin 3 → ℕ) a + S1x32x256.size a ≤ S2x384x256.size a}
    {w : S1x32x256.Idx → Elt Ideal .bf16} {L : List (View.Piece (Elt Ideal) S2x384x256 .bf16)}
    (hL : RowsOK f ⟨s, hs⟩ n (by omega) L)
    (hw : ∀ (j : Fin 32) (l : Fin 256), w (ix3 0 j l) = f ⟨32 * n + j.val, by omega⟩ l) :
    RowsOK f ⟨s, hs⟩ (n + 1) hn (⟨Rect.unit ![s, 32 * n, 0] S1x32x256.size inb, w⟩ :: L) := by
  intro j l hj
  by_cases h : j.val < 32 * n
  · rw [View.canon_cons_of_not_mem]
    · exact hL j l h
    · intro hm
      have := (Rect.mem_set_unit.mp (show _ ∈ (Rect.unit (s := S2x384x256) ![s, 32 * n, 0] S1x32x256.size inb).set from hm) (1 : Fin 3)).1
      simp at this
      omega
  · have e : (ix3 (⟨s, hs⟩ : Fin 2) j l : S2x384x256.Idx)
        = (Rect.unit (s := S2x384x256) ![s, 32 * n, 0] S1x32x256.size inb).emb (ix3 0 ⟨j.val - 32 * n, by omega⟩ l) := by
      funext a
      match a with
      | ⟨0, _⟩ => exact Fin.ext (by simp [Rect.emb, Rect.unit])
      | ⟨1, _⟩ => exact Fin.ext (by simp [Rect.emb, Rect.unit]; omega)
      | ⟨2, _⟩ => exact Fin.ext (by simp [Rect.emb, Rect.unit])
    rw [e, View.canon_cons_emb, hw]
    congr 1
    exact Fin.ext (by simp; omega)

end Cert.KernelIdeal.Val
-- ==== Proof.Val.Ops.lean ====
module

public import proofs.«01_k».proof.Proof.Frame.KernelIdeal.Runs
public import proofs.«01_k».proof.Proof.Val.Spec
public import Idealize.ShloMosaic.Lib.Pointwise

/-! # The operations of one grid point, entry by entry

Each lemma reads one group of the kernel's operations at an index: its hypotheses say what the operands hold,
its conclusion what the result holds, in the words of `Blk`. They are applied backwards, from a stored value
to the loads it came from. -/

@[expose] public section

set_option maxRecDepth 16384

noncomputable section

namespace Cert.KernelIdeal.Val

open Cert.KernelIdeal.Gen
open Idealize.ShloMosaic Idealize.ShloMosaic.TcCoe

variable {B : Blk} {hp : Fin 4}

/-! ## One chunk of 32 keys of a pair of heads -/

/-- The unmasked probability of row `r + j`. -/
theorem px_ok {n : ℕ} {sn sr : FVec Ideal ⟨2, ![n, 256]⟩ .f32} {cs : FVec Ideal S32x128 .f32} {q e : FVec Ideal S1x256 .f32}
    {r : ℕ} {h1 h2 hc hb hb'} (hr : r + 32 ≤ n) (hn : n ≤ 384)
    (hsn : ∀ (j : Fin n) (l : Fin 256), sn (ix2 j l) = B.SN (hd hp l) (ln l) ⟨j.val, by omega⟩)
    (hsr : ∀ (j : Fin n) (l : Fin 256), sr (ix2 j l) = B.SR (hd hp l) (ln l) ⟨j.val, by omega⟩)
    (hcs : ∀ (j : Fin 32) (l : Fin 128), cs (ix2 j l) = B.cs ⟨r + j.val, by omega⟩)
    (hq : ∀ l : Fin 256, q (ix2 0 l) = B.qs (hd hp l) (ln l) * cKL)
    (he : ∀ l : Fin 256, e (ix2 0 l) = B.lse (hd hp l) (ln l) * cL)
    (j : Fin 32) (l : Fin 256) :
    exp2 (subf (mulf (addf (mulf (extractStridedSlice S32x256 ![r, 0] sn h1) (concatenate S32x256 1 [⟨S32x128, cs⟩, ⟨S32x128, cs⟩] hc))
      (extractStridedSlice S32x256 ![r, 0] sr h2)) (broadcastTo S32x256 q hb)) (broadcastTo S32x256 e hb')) (ix2 j l)
      = B.PX (hd hp l) (ln l) ⟨r + j.val, by omega⟩ := by
  have key : ∀ x : FVec Ideal ⟨2, ![n, 256]⟩ .f32, ∀ h, extractStridedSlice S32x256 ![r, 0] x h (ix2 j l) = x (ix2 ⟨r + j.val, by omega⟩ l) :=
    fun x h => congrArg x (funext fun a => by
      match a with
      | ⟨0, _⟩ => exact Fin.ext (by simp)
      | ⟨1, _⟩ => exact Fin.ext (by simp))
  have kc : concatenate S32x256 1 [⟨S32x128, cs⟩, ⟨S32x128, cs⟩] hc (ix2 j l) = B.cs ⟨r + j.val, by omega⟩ := by
    pointwise []
    split <;> exact hcs _ _
  have kb : ∀ (x : FVec Ideal S1x256 .f32) (h), broadcastTo S32x256 x h (ix2 j l) = x (ix2 0 l) := by
    intro x h
    pointwise []
  show Ideal.exp2 ((_ * _ + _) * _ - _) = _
  rw [key, key, kc, kb, kb, hsn, hsr, hq, he]
  rfl

/-- The causal mask of the last block: row `m + j` is kept up to the query. -/
theorem mask_ok {m : ℕ} (hm : m ≤ 96) {hi hj} (x : FVec Ideal S32x256 .f32) (j : Fin 32) (l : Fin 256) :
    select (cmpi .sle (addi (iota .tc S32x256 32 [0] hi) (broadcast S32x256 (BitVec.ofNat 32 m))) (andi (iota .tc S32x256 32 [1] hj) (broadcast S32x256 127#32)))
      x (broadcast S32x256 (FloatOps.ofBits (F := Ideal) .f32 0#32)) (ix2 j l) = if m + j.val ≤ l.val % 128 then x (ix2 j l) else 0 := by
  pointwise []
  have hc : IntOp.cmpi CmpIPredicate.sle (IntOp.addi (BitVec.ofNat 32 j.val) (BitVec.ofNat 32 m)) (IntOp.andi (BitVec.ofNat 32 l.val) 127#32)
      = BitVec.ofBool (decide (m + j.val ≤ l.val % 128)) := by
    have e1 : IntOp.addi (BitVec.ofNat 32 j.val) (BitVec.ofNat 32 m) = BitVec.ofNat 32 (m + j.val) := by
      apply BitVec.eq_of_toNat_eq; simp [IntOp.addi]; omega
    have e2 : IntOp.andi (BitVec.ofNat 32 l.val) 127#32 = BitVec.ofNat 32 (l.val % 128) := by
      apply BitVec.eq_of_toNat_eq
      have h1 : l.val % 4294967296 = l.val := by omega
      have h2 : l.val % 128 % 4294967296 = l.val % 128 := by omega
      simp only [IntOp.andi, BitVec.toNat_and, BitVec.toNat_ofNat, Nat.reducePow, h1, h2, Nat.reduceMod]
      exact Nat.and_two_pow_sub_one_eq_mod l.val 7
    rw [e1, e2]
    have t1 : (BitVec.ofNat 32 (m + j.val)).toInt = ((m + j.val : ℕ) : ℤ) := by
      rw [BitVec.toInt_eq_toNat_of_lt (by simp; omega)]; simp; omega
    have t2 : (BitVec.ofNat 32 (l.val % 128)).toInt = ((l.val % 128 : ℕ) : ℤ) := by
      rw [BitVec.toInt_eq_toNat_of_lt (by simp; omega)]; simp; omega
    simp only [IntOp.cmpi, BitVec.sle, t1, t2, Nat.cast_le]
  rw [hc]
  by_cases h : m + j.val ≤ l.val % 128 <;> simp [h, Scalar.select]

/-- The masked probability of row `r + j` of the last block of keys. -/
theorem pm_ok {n : ℕ} {sn sr : FVec Ideal ⟨2, ![n, 256]⟩ .f32} {cs : FVec Ideal S32x128 .f32} {q e : FVec Ideal S1x256 .f32}
    {m r : ℕ} {h1 h2 hc hb hb' hi hj} (hr : r + 32 ≤ n) (hn : n ≤ 384) (hm : m ≤ 96) (hrm : r = 128 * B.k + m)
    (hsn : ∀ (j : Fin n) (l : Fin 256), sn (ix2 j l) = B.SN (hd hp l) (ln l) ⟨j.val, by omega⟩)
    (hsr : ∀ (j : Fin n) (l : Fin 256), sr (ix2 j l) = B.SR (hd hp l) (ln l) ⟨j.val, by omega⟩)
    (hcs : ∀ (j : Fin 32) (l : Fin 128), cs (ix2 j l) = B.cs ⟨r + j.val, by omega⟩)
    (hq : ∀ l : Fin 256, q (ix2 0 l) = B.qs (hd hp l) (ln l) * cKL)
    (he : ∀ l : Fin 256, e (ix2 0 l) = B.lse (hd hp l) (ln l) * cL)
    (j : Fin 32) (l : Fin 256) :
    select (cmpi .sle (addi (iota .tc S32x256 32 [0] hi) (broadcast S32x256 (BitVec.ofNat 32 m))) (andi (iota .tc S32x256 32 [1] hj) (broadcast S32x256 127#32)))
      (exp2 (subf (mulf (addf (mulf (extractStridedSlice S32x256 ![r, 0] sn h1) (concatenate S32x256 1 [⟨S32x128, cs⟩, ⟨S32x128, cs⟩] hc))
      (extractStridedSlice S32x256 ![r, 0] sr h2)) (broadcastTo S32x256 q hb)) (broadcastTo S32x256 e hb')))
      (broadcast S32x256 (FloatOps.ofBits (F := Ideal) .f32 0#32)) (ix2 j l)
      = B.P (hd hp l) (ln l) ⟨r + j.val, by omega⟩ := by
  rw [mask_ok hm, px_ok hr hn hsn hsr hcs hq he]
  have : (m + j.val ≤ l.val % 128) ↔ (r + j.val ≤ 128 * B.k + l.val % 128) := by omega
  unfold Blk.P
  simp only [this]
  rfl

/-- Rows before the last block are all kept. -/
theorem pu_ok {n : ℕ} {sn sr : FVec Ideal ⟨2, ![n, 256]⟩ .f32} {cs : FVec Ideal S32x128 .f32} {q e : FVec Ideal S1x256 .f32}
    {r : ℕ} {h1 h2 hc hb hb'} (hr : r + 32 ≤ n) (hn : n ≤ 384) (hrm : r + 32 ≤ 128 * B.k)
    (hsn : ∀ (j : Fin n) (l : Fin 256), sn (ix2 j l) = B.SN (hd hp l) (ln l) ⟨j.val, by omega⟩)
    (hsr : ∀ (j : Fin n) (l : Fin 256), sr (ix2 j l) = B.SR (hd hp l) (ln l) ⟨j.val, by omega⟩)
    (hcs : ∀ (j : Fin 32) (l : Fin 128), cs (ix2 j l) = B.cs ⟨r + j.val, by omega⟩)
    (hq : ∀ l : Fin 256, q (ix2 0 l) = B.qs (hd hp l) (ln l) * cKL)
    (he : ∀ l : Fin 256, e (ix2 0 l) = B.lse (hd hp l) (ln l) * cL)
    (j : Fin 32) (l : Fin 256) :
    exp2 (subf (mulf (addf (mulf (extractStridedSlice S32x256 ![r, 0] sn h1) (concatenate S32x256 1 [⟨S32x128, cs⟩, ⟨S32x128, cs⟩] hc))
      (extractStridedSlice S32x256 ![r, 0] sr h2)) (broadcastTo S32x256 q hb)) (broadcastTo S32x256 e hb')) (ix2 j l)
      = B.P (hd hp l) (ln l) ⟨r + j.val, by omega⟩ := by
  rw [px_ok hr hn hsn hsr hcs hq he]
  unfold Blk.P
  rw [if_pos (show r + j.val ≤ _ by omega)]

/-- Times the output gradient's scale. -/
theorem ps_ok {p : FVec Ideal S32x256 .f32} {d : FVec Ideal S1x256 .f32} {r : ℕ} {hb} (hr : r + 32 ≤ 384)
    (h : ∀ (j : Fin 32) (l : Fin 256), p (ix2 j l) = B.P (hd hp l) (ln l) ⟨r + j.val, by omega⟩)
    (hds : ∀ l : Fin 256, d (ix2 0 l) = B.ds (ln l)) (j : Fin 32) (l : Fin 256) :
    mulf p (broadcastTo S32x256 d hb) (ix2 j l) = B.PS (hd hp l) (ln l) ⟨r + j.val, by omega⟩ := by
  pointwise []
  rw [h, hds]
  rfl

/-- A stored chunk of scaled probabilities. -/
theorem piece_p {p : FVec Ideal S32x256 .f32} {r : ℕ} {hb hs} (hr : r + 32 ≤ 384)
    (h : ∀ (j : Fin 32) (l : Fin 256), p (ix2 j l) = B.PS (hd hp l) (ln l) ⟨r + j.val, by omega⟩) (j : Fin 32) (l : Fin 256) :
    shapeCast S1x32x256 (truncf .bf16 p hb) hs (ix3 0 j l) = B.PS (hd hp l) (ln l) ⟨r + j.val, by omega⟩ := by
  pointwise []
  exact h j l

/-- A chunk of score gradients. -/
theorem g_ok {n : ℕ} {p : FVec Ideal S32x256 .f32} {dp : FVec Ideal ⟨2, ![n, 256]⟩ .f32} {cs : FVec Ideal S32x128 .f32} {dl : FVec Ideal S1x256 .f32}
    {r : ℕ} {hb h1 hc hb'} (hr : r + 32 ≤ n) (hn : n ≤ 384)
    (h : ∀ (j : Fin 32) (l : Fin 256), p (ix2 j l) = B.PS (hd hp l) (ln l) ⟨r + j.val, by omega⟩)
    (hdp : ∀ (j : Fin n) (l : Fin 256), dp (ix2 j l) = B.DP (hd hp l) (ln l) ⟨j.val, by omega⟩)
    (hcs : ∀ (j : Fin 32) (l : Fin 128), cs (ix2 j l) = B.cs ⟨r + j.val, by omega⟩)
    (hdl : ∀ l : Fin 256, dl (ix2 0 l) = B.DELTA (hd hp l) (ln l)) (j : Fin 32) (l : Fin 256) :
    truncf .bf16 (mulf p (mulf (subf (mulf (extractStridedSlice S32x256 ![r, 0] dp h1) (concatenate S32x256 1 [⟨S32x128, cs⟩, ⟨S32x128, cs⟩] hc))
      (broadcastTo S32x256 dl hb)) (broadcast S32x256 (Named.named (F := Ideal) κ (φ := .f32) "scale" 0x3D93CD3A#32)))) hb' (ix2 j l)
      = B.G (hd hp l) (ln l) ⟨r + j.val, by omega⟩ := by
  have key : ∀ x : FVec Ideal ⟨2, ![n, 256]⟩ .f32, ∀ h, extractStridedSlice S32x256 ![r, 0] x h (ix2 j l) = x (ix2 ⟨r + j.val, by omega⟩ l) :=
    fun x h => congrArg x (funext fun a => by
      match a with
      | ⟨0, _⟩ => exact Fin.ext (by simp)
      | ⟨1, _⟩ => exact Fin.ext (by simp))
  have kc : concatenate S32x256 1 [⟨S32x128, cs⟩, ⟨S32x128, cs⟩] hc (ix2 j l) = B.cs ⟨r + j.val, by omega⟩ := by
    pointwise []
    split <;> exact hcs _ _
  have kb : ∀ (x : FVec Ideal S1x256 .f32) (h), broadcastTo S32x256 x h (ix2 j l) = x (ix2 0 l) := by
    intro x h
    pointwise []
  show (_ * ((_ * _ - _) * _) : EReal) = _
  rw [key, kc, kb, h, hdp, hdl]
  rfl

/-- A stored chunk of score gradients. -/
theorem piece_g {g : FVec Ideal S32x256 .bf16} {r : ℕ} {hs} (hr : r + 32 ≤ 384)
    (h : ∀ (j : Fin 32) (l : Fin 256), g (ix2 j l) = B.G (hd hp l) (ln l) ⟨r + j.val, by omega⟩) (j : Fin 32) (l : Fin 256) :
    shapeCast S1x32x256 g hs (ix3 0 j l) = B.G (hd hp l) (ln l) ⟨r + j.val, by omega⟩ := by
  pointwise []
  exact h j l

/-- A stored chunk of scaled score gradients. -/
theorem piece_gq {g : FVec Ideal S32x256 .bf16} {qsb : FVec Ideal S16x256 .bf16} {r : ℕ} {h1 h2 h3 h4 h5} (hr : r + 32 ≤ 384)
    (h : ∀ (j : Fin 32) (l : Fin 256), g (ix2 j l) = B.G (hd hp l) (ln l) ⟨r + j.val, by omega⟩)
    (hqs : ∀ (j : Fin 16) (l : Fin 256), qsb (ix2 j l) = B.qs (hd hp l) (ln l)) (j : Fin 32) (l : Fin 256) :
    shapeCast S1x32x256 (shapeCast S32x256 (mulf (shapeCast S2x16x256 g h1) (broadcastTo S2x16x256 (shapeCast S1x16x256 qsb h2) h3)) h4) h5 (ix3 0 j l)
      = B.GQ (hd hp l) (ln l) ⟨r + j.val, by omega⟩ := by
  pointwise []
  rw [h, hqs]
  rfl

/-! ## Matrix products -/

theorem sn128 {a : FVec Ideal S128x512 .fp8e4m3} {b : FVec Ideal S512x256 .fp8e4m3}
    (ha : ∀ (j : Fin 128) (r : Fin 512), a (ix2 j r) = B.c ⟨j.val, by omega⟩ r)
    (hb : ∀ (r : Fin 512) (l : Fin 256), b (ix2 r l) = B.q (hd hp l) ⟨r.val, by omega⟩ (ln l)) (j : Fin 128) (l : Fin 256) :
    matmul dot_S128x512_S512x256_S128x256_1_0_0_1_n_n none a b (constant S128x256 .f32 0#32) (ix2 j l) = B.SN (hd hp l) (ln l) ⟨j.val, by omega⟩ := by
  pointwise []
  simp only [ha, hb]
  rfl

theorem sr128 {a : FVec Ideal S128x64 .bf16} {b : FVec Ideal S64x256 .bf16}
    (ha : ∀ (j : Fin 128) (r : Fin 64), a (ix2 j r) = B.kr ⟨j.val, by omega⟩ r)
    (hb : ∀ (r : Fin 64) (l : Fin 256), b (ix2 r l) = B.q (hd hp l) ⟨512 + r.val, by omega⟩ (ln l)) (j : Fin 128) (l : Fin 256) :
    matmul dot_S128x64_S64x256_S128x256_1_0_0_1_n_n none a b (constant S128x256 .f32 0#32) (ix2 j l) = B.SR (hd hp l) (ln l) ⟨j.val, by omega⟩ := by
  pointwise []
  simp only [ha, hb]
  rfl

theorem dp128 {a : FVec Ideal S128x512 .fp8e4m3} {b : FVec Ideal S256x512 .fp8e5m2}
    (ha : ∀ (j : Fin 128) (r : Fin 512), a (ix2 j r) = B.c ⟨j.val, by omega⟩ r)
    (hb : ∀ (l : Fin 256) (r : Fin 512), b (ix2 l r) = B.dof (hd hp l) (ln l) r) (j : Fin 128) (l : Fin 256) :
    matmul dot_S128x512_S256x512_S128x256_1_1_0_0_n_n none a b (constant S128x256 .f32 0#32) (ix2 j l) = B.DP (hd hp l) (ln l) ⟨j.val, by omega⟩ := by
  pointwise []
  simp only [ha, hb]
  rfl

theorem dq128 {a : FVec Ideal S576x128 .bf16} {b : FVec Ideal S1x128x256 .bf16} {h}
    (ha : ∀ (r : Fin 576) (j : Fin 128), a (ix2 r j) = B.kt r ⟨j.val, by omega⟩)
    (hb : ∀ (j : Fin 128) (l : Fin 256), b (ix3 0 j l) = B.G (hd hp l) (ln l) ⟨j.val, by omega⟩) (r : Fin 576) (l : Fin 256) :
    matmul dot_S576x128_S128x256_S576x256_1_0_0_1_n_n none a (shapeCast S128x256 b h) (constant S576x256 .f32 0#32) (ix2 r l)
      = B.DQ 128 (by decide) (hd hp l) r (ln l) := by
  pointwise []
  simp only [ha, hb]
  rfl

theorem dc128 {ac : FVec Ideal S1x128x512 .f32} {p gq : FVec Ideal S1x128x256 .bf16} {d : FVec Ideal S256x512 .fp8e5m2} {q : FVec Ideal S512x256 .fp8e4m3}
    {h1 h2 h3 h4} {A : Fin 384 → Fin 512 → EReal}
    (hA : ∀ (j : Fin 128) (r : Fin 512), ac (ix3 0 j r) = A ⟨j.val, by omega⟩ r)
    (hp' : ∀ (j : Fin 128) (l : Fin 256), p (ix3 0 j l) = B.PS (hd hp l) (ln l) ⟨j.val, by omega⟩)
    (hgq : ∀ (j : Fin 128) (l : Fin 256), gq (ix3 0 j l) = B.GQ (hd hp l) (ln l) ⟨j.val, by omega⟩)
    (hdo : ∀ (l : Fin 256) (r : Fin 512), d (ix2 l r) = B.dof (hd hp l) (ln l) r)
    (hq : ∀ (r : Fin 512) (l : Fin 256), q (ix2 r l) = B.q (hd hp l) ⟨r.val, by omega⟩ (ln l)) (j : Fin 128) (r : Fin 512) :
    shapeCast S1x128x512 (addf (shapeCast S128x512 ac h1) (addf
      (matmul dot_S128x256_S256x512_S128x512_1_0_0_1_n_n none (shapeCast S128x256 p h2) d (constant S128x512 .f32 0#32))
      (matmul dot_S128x256_S512x256_S128x512_1_1_0_0_n_n none (shapeCast S128x256 gq h3) q (constant S128x512 .f32 0#32)))) h4 (ix3 0 j r)
      = A ⟨j.val, by omega⟩ r + B.DC hp ⟨j.val, by omega⟩ r := by
  pointwise []
  simp only [hA, hp', hgq, hdo, hq]
  rfl

theorem dk128 {ac : FVec Ideal S1x64x128 .f32} {gq : FVec Ideal S1x128x256 .bf16} {q : FVec Ideal S64x256 .bf16}
    {h1 h3 h4} {A : Fin 64 → Fin 384 → EReal}
    (hA : ∀ (d : Fin 64) (j : Fin 128), ac (ix3 0 d j) = A d ⟨j.val, by omega⟩)
    (hgq : ∀ (j : Fin 128) (l : Fin 256), gq (ix3 0 j l) = B.GQ (hd hp l) (ln l) ⟨j.val, by omega⟩)
    (hq : ∀ (r : Fin 64) (l : Fin 256), q (ix2 r l) = B.q (hd hp l) ⟨512 + r.val, by omega⟩ (ln l)) (d : Fin 64) (j : Fin 128) :
    shapeCast S1x64x128 (addf (shapeCast S64x128 ac h1)
      (matmul dot_S64x256_S128x256_S64x128_1_1_0_0_n_n none q (shapeCast S128x256 gq h3) (constant S64x128 .f32 0#32))) h4 (ix3 0 d j)
      = A d ⟨j.val, by omega⟩ + B.DK hp d ⟨j.val, by omega⟩ := by
  pointwise []
  simp only [hA, hgq, hq]
  rfl

theorem sn256 {a : FVec Ideal S256x512 .fp8e4m3} {b : FVec Ideal S512x256 .fp8e4m3}
    (ha : ∀ (j : Fin 256) (r : Fin 512), a (ix2 j r) = B.c ⟨j.val, by omega⟩ r)
    (hb : ∀ (r : Fin 512) (l : Fin 256), b (ix2 r l) = B.q (hd hp l) ⟨r.val, by omega⟩ (ln l)) (j : Fin 256) (l : Fin 256) :
    matmul dot_S256x512_S512x256_S256x256_1_0_0_1_n_n none a b (constant S256x256 .f32 0#32) (ix2 j l) = B.SN (hd hp l) (ln l) ⟨j.val, by omega⟩ := by
  pointwise []
  simp only [ha, hb]
  rfl

theorem sr256 {a : FVec Ideal S256x64 .bf16} {b : FVec Ideal S64x256 .bf16}
    (ha : ∀ (j : Fin 256) (r : Fin 64), a (ix2 j r) = B.kr ⟨j.val, by omega⟩ r)
    (hb : ∀ (r : Fin 64) (l : Fin 256), b (ix2 r l) = B.q (hd hp l) ⟨512 + r.val, by omega⟩ (ln l)) (j : Fin 256) (l : Fin 256) :
    matmul dot_S256x64_S64x256_S256x256_1_0_0_1_n_n none a b (constant S256x256 .f32 0#32) (ix2 j l) = B.SR (hd hp l) (ln l) ⟨j.val, by omega⟩ := by
  pointwise []
  simp only [ha, hb]
  rfl

theorem dp256 {a : FVec Ideal S256x512 .fp8e4m3} {b : FVec Ideal S256x512 .fp8e5m2}
    (ha : ∀ (j : Fin 256) (r : Fin 512), a (ix2 j r) = B.c ⟨j.val, by omega⟩ r)
    (hb : ∀ (l : Fin 256) (r : Fin 512), b (ix2 l r) = B.dof (hd hp l) (ln l) r) (j : Fin 256) (l : Fin 256) :
    matmul dot_S256x512_S256x512_S256x256_1_1_0_0_n_n none a b (constant S256x256 .f32 0#32) (ix2 j l) = B.DP (hd hp l) (ln l) ⟨j.val, by omega⟩ := by
  pointwise []
  simp only [ha, hb]
  rfl

theorem dq256 {a : FVec Ideal S576x256 .bf16} {b : FVec Ideal S1x256x256 .bf16} {h}
    (ha : ∀ (r : Fin 576) (j : Fin 256), a (ix2 r j) = B.kt r ⟨j.val, by omega⟩)
    (hb : ∀ (j : Fin 256) (l : Fin 256), b (ix3 0 j l) = B.G (hd hp l) (ln l) ⟨j.val, by omega⟩) (r : Fin 576) (l : Fin 256) :
    matmul dot_S576x256_S256x256_S576x256_1_0_0_1_n_n none a (shapeCast S256x256 b h) (constant S576x256 .f32 0#32) (ix2 r l)
      = B.DQ 256 (by decide) (hd hp l) r (ln l) := by
  pointwise []
  simp only [ha, hb]
  rfl

theorem dc256 {ac : FVec Ideal S1x256x512 .f32} {p gq : FVec Ideal S1x256x256 .bf16} {d : FVec Ideal S256x512 .fp8e5m2} {q : FVec Ideal S512x256 .fp8e4m3}
    {h1 h2 h3 h4} {A : Fin 384 → Fin 512 → EReal}
    (hA : ∀ (j : Fin 256) (r : Fin 512), ac (ix3 0 j r) = A ⟨j.val, by omega⟩ r)
    (hp' : ∀ (j : Fin 256) (l : Fin 256), p (ix3 0 j l) = B.PS (hd hp l) (ln l) ⟨j.val, by omega⟩)
    (hgq : ∀ (j : Fin 256) (l : Fin 256), gq (ix3 0 j l) = B.GQ (hd hp l) (ln l) ⟨j.val, by omega⟩)
    (hdo : ∀ (l : Fin 256) (r : Fin 512), d (ix2 l r) = B.dof (hd hp l) (ln l) r)
    (hq : ∀ (r : Fin 512) (l : Fin 256), q (ix2 r l) = B.q (hd hp l) ⟨r.val, by omega⟩ (ln l)) (j : Fin 256) (r : Fin 512) :
    shapeCast S1x256x512 (addf (shapeCast S256x512 ac h1) (addf
      (matmul dot_S256x256_S256x512_S256x512_1_0_0_1_n_n none (shapeCast S256x256 p h2) d (constant S256x512 .f32 0#32))
      (matmul dot_S256x256_S512x256_S256x512_1_1_0_0_n_n none (shapeCast S256x256 gq h3) q (constant S256x512 .f32 0#32)))) h4 (ix3 0 j r)
      = A ⟨j.val, by omega⟩ r + B.DC hp ⟨j.val, by omega⟩ r := by
  pointwise []
  simp only [hA, hp', hgq, hdo, hq]
  rfl

theorem dk256 {ac : FVec Ideal S1x64x256 .f32} {gq : FVec Ideal S1x256x256 .bf16} {q : FVec Ideal S64x256 .bf16}
    {h1 h3 h4} {A : Fin 64 → Fin 384 → EReal}
    (hA : ∀ (d : Fin 64) (j : Fin 256), ac (ix3 0 d j) = A d ⟨j.val, by omega⟩)
    (hgq : ∀ (j : Fin 256) (l : Fin 256), gq (ix3 0 j l) = B.GQ (hd hp l) (ln l) ⟨j.val, by omega⟩)
    (hq : ∀ (r : Fin 64) (l : Fin 256), q (ix2 r l) = B.q (hd hp l) ⟨512 + r.val, by omega⟩ (ln l)) (d : Fin 64) (j : Fin 256) :
    shapeCast S1x64x256 (addf (shapeCast S64x256 ac h1)
      (matmul dot_S64x256_S256x256_S64x256_1_1_0_0_n_n none q (shapeCast S256x256 gq h3) (constant S64x256 .f32 0#32))) h4 (ix3 0 d j)
      = A d ⟨j.val, by omega⟩ + B.DK hp d ⟨j.val, by omega⟩ := by
  pointwise []
  simp only [hA, hgq, hq]
  rfl

theorem sn384 {a : FVec Ideal S384x512 .fp8e4m3} {b : FVec Ideal S512x256 .fp8e4m3}
    (ha : ∀ (j : Fin 384) (r : Fin 512), a (ix2 j r) = B.c ⟨j.val, by omega⟩ r)
    (hb : ∀ (r : Fin 512) (l : Fin 256), b (ix2 r l) = B.q (hd hp l) ⟨r.val, by omega⟩ (ln l)) (j : Fin 384) (l : Fin 256) :
    matmul dot_S384x512_S512x256_S384x256_1_0_0_1_n_n none a b (constant S384x256 .f32 0#32) (ix2 j l) = B.SN (hd hp l) (ln l) ⟨j.val, by omega⟩ := by
  pointwise []
  simp only [ha, hb]
  rfl

theorem sr384 {a : FVec Ideal S384x64 .bf16} {b : FVec Ideal S64x256 .bf16}
    (ha : ∀ (j : Fin 384) (r : Fin 64), a (ix2 j r) = B.kr ⟨j.val, by omega⟩ r)
    (hb : ∀ (r : Fin 64) (l : Fin 256), b (ix2 r l) = B.q (hd hp l) ⟨512 + r.val, by omega⟩ (ln l)) (j : Fin 384) (l : Fin 256) :
    matmul dot_S384x64_S64x256_S384x256_1_0_0_1_n_n none a b (constant S384x256 .f32 0#32) (ix2 j l) = B.SR (hd hp l) (ln l) ⟨j.val, by omega⟩ := by
  pointwise []
  simp only [ha, hb]
  rfl

theorem dp384 {a : FVec Ideal S384x512 .fp8e4m3} {b : FVec Ideal S256x512 .fp8e5m2}
    (ha : ∀ (j : Fin 384) (r : Fin 512), a (ix2 j r) = B.c ⟨j.val, by omega⟩ r)
    (hb : ∀ (l : Fin 256) (r : Fin 512), b (ix2 l r) = B.dof (hd hp l) (ln l) r) (j : Fin 384) (l : Fin 256) :
    matmul dot_S384x512_S256x512_S384x256_1_1_0_0_n_n none a b (constant S384x256 .f32 0#32) (ix2 j l) = B.DP (hd hp l) (ln l) ⟨j.val, by omega⟩ := by
  pointwise []
  simp only [ha, hb]
  rfl

theorem dq384 {a : FVec Ideal S576x384 .bf16} {b : FVec Ideal S1x384x256 .bf16} {h}
    (ha : ∀ (r : Fin 576) (j : Fin 384), a (ix2 r j) = B.kt r ⟨j.val, by omega⟩)
    (hb : ∀ (j : Fin 384) (l : Fin 256), b (ix3 0 j l) = B.G (hd hp l) (ln l) ⟨j.val, by omega⟩) (r : Fin 576) (l : Fin 256) :
    matmul dot_S576x384_S384x256_S576x256_1_0_0_1_n_n none a (shapeCast S384x256 b h) (constant S576x256 .f32 0#32) (ix2 r l)
      = B.DQ 384 (by decide) (hd hp l) r (ln l) := by
  pointwise []
  simp only [ha, hb]
  rfl

theorem dc384 {ac : FVec Ideal S1x384x512 .f32} {p gq : FVec Ideal S1x384x256 .bf16} {d : FVec Ideal S256x512 .fp8e5m2} {q : FVec Ideal S512x256 .fp8e4m3}
    {h1 h2 h3 h4} {A : Fin 384 → Fin 512 → EReal}
    (hA : ∀ (j : Fin 384) (r : Fin 512), ac (ix3 0 j r) = A ⟨j.val, by omega⟩ r)
    (hp' : ∀ (j : Fin 384) (l : Fin 256), p (ix3 0 j l) = B.PS (hd hp l) (ln l) ⟨j.val, by omega⟩)
    (hgq : ∀ (j : Fin 384) (l : Fin 256), gq (ix3 0 j l) = B.GQ (hd hp l) (ln l) ⟨j.val, by omega⟩)
    (hdo : ∀ (l : Fin 256) (r : Fin 512), d (ix2 l r) = B.dof (hd hp l) (ln l) r)
    (hq : ∀ (r : Fin 512) (l : Fin 256), q (ix2 r l) = B.q (hd hp l) ⟨r.val, by omega⟩ (ln l)) (j : Fin 384) (r : Fin 512) :
    shapeCast S1x384x512 (addf (shapeCast S384x512 ac h1) (addf
      (matmul dot_S384x256_S256x512_S384x512_1_0_0_1_n_n none (shapeCast S384x256 p h2) d (constant S384x512 .f32 0#32))
      (matmul dot_S384x256_S512x256_S384x512_1_1_0_0_n_n none (shapeCast S384x256 gq h3) q (constant S384x512 .f32 0#32)))) h4 (ix3 0 j r)
      = A ⟨j.val, by omega⟩ r + B.DC hp ⟨j.val, by omega⟩ r := by
  pointwise []
  simp only [hA, hp', hgq, hdo, hq]
  rfl

theorem dk384 {ac : FVec Ideal S1x64x384 .f32} {gq : FVec Ideal S1x384x256 .bf16} {q : FVec Ideal S64x256 .bf16}
    {h1 h3 h4} {A : Fin 64 → Fin 384 → EReal}
    (hA : ∀ (d : Fin 64) (j : Fin 384), ac (ix3 0 d j) = A d ⟨j.val, by omega⟩)
    (hgq : ∀ (j : Fin 384) (l : Fin 256), gq (ix3 0 j l) = B.GQ (hd hp l) (ln l) ⟨j.val, by omega⟩)
    (hq : ∀ (r : Fin 64) (l : Fin 256), q (ix2 r l) = B.q (hd hp l) ⟨512 + r.val, by omega⟩ (ln l)) (d : Fin 64) (j : Fin 384) :
    shapeCast S1x64x384 (addf (shapeCast S64x384 ac h1)
      (matmul dot_S64x256_S384x256_S64x384_1_1_0_0_n_n none q (shapeCast S384x256 gq h3) (constant S64x384 .f32 0#32))) h4 (ix3 0 d j)
      = A d ⟨j.val, by omega⟩ + B.DK hp d ⟨j.val, by omega⟩ := by
  pointwise []
  simp only [hA, hgq, hq]
  rfl

/-- The left half of a pair's dq: its first head. -/
theorem dqL {x : FVec Ideal S576x256 .f32} {n hn h1 h2 h3}
    (h : ∀ (r : Fin 576) (l : Fin 256), x (ix2 r l) = B.DQ n hn (hd hp l) r (ln l)) (r : Fin 576) (i : Fin 128) :
    shapeCast S1x1x576x128 (truncf .bf16 (extractStridedSlice S576x128 ![0, 0] x h1) h2) h3 (ix4 0 0 r i) = B.DQ n hn ⟨2 * hp.val, by omega⟩ r i := by
  pointwise []
  rw [h]
  congr 1
  · exact Fin.ext (by simp [hd])
  · exact Fin.ext (by simp [ln])

/-- The right half: its second head. -/
theorem dqR {x : FVec Ideal S576x256 .f32} {n hn h1 h2 h3}
    (h : ∀ (r : Fin 576) (l : Fin 256), x (ix2 r l) = B.DQ n hn (hd hp l) r (ln l)) (r : Fin 576) (i : Fin 128) :
    shapeCast S1x1x576x128 (truncf .bf16 (extractStridedSlice S576x128 ![0, 128] x h1) h2) h3 (ix4 0 0 r i) = B.DQ n hn ⟨2 * hp.val + 1, by omega⟩ r i := by
  pointwise []
  rw [h]
  congr 1
  · exact Fin.ext (by simp [hd])
  · exact Fin.ext (by simp [ln])

end Cert.KernelIdeal.Val
-- ==== Proof.Val.Loads.lean ====
module

public import proofs.«01_k».proof.Proof.Val.Ops

/-! # What the loads read, and the two precomputed scratches

The transposed output gradient (`DorOK`) and the row sums (`DeltaOK`) are built over 32 and 128 steps; one lemma
per step. -/

@[expose] public section

set_option maxRecDepth 16384

noncomputable section

namespace Cert.KernelIdeal.Val

open Cert.KernelIdeal.Gen
open Idealize.ShloMosaic Idealize.ShloMosaic.TcCoe

variable {B : Blk} {hp : Fin 4}

/-- A load of known contents. -/
theorem rd {s : Shape} {e : EltTy} {m : Memref sig .tc .vmem s e} {hm : m.IsWhole} {x : s.Idx → Elt Ideal e} (r : Rect s) (j : r.shape.Idx) :
    View.readAt (Elt Ideal) m.view r.toLoadRect (hm.unread x) j = x (r.emb j) := by
  rw [View.readAt_eq_ld, Memref.IsWhole.read_unread]
  rfl

/-- A load of stored contents. -/
theorem rc {s : Shape} {e : EltTy} {m : Memref sig .tc .vmem s e} {L : List (View.Piece (Elt Ideal) s e)} (r : Rect s) (j : r.shape.Idx) :
    m.view.readCov L r.toLoadRect j = View.canon (Val := Elt Ideal) L (r.emb j) := by
  rw [View.readCov_eq_canon']
  rfl

theorem emb2 {n m a b o p : ℕ} {inb} (i : Fin a) (j : Fin b) (h1 : o + i.val < n) (h2 : p + j.val < m) :
    (Rect.unit (s := ⟨2, ![n, m]⟩) ![o, p] (⟨2, ![a, b]⟩ : Shape).size inb).emb (ix2 i j) = ix2 ⟨o + i.val, h1⟩ ⟨p + j.val, h2⟩ := by
  funext x
  match x with
  | ⟨0, _⟩ => exact Fin.ext (by simp [Rect.emb, Rect.unit])
  | ⟨1, _⟩ => exact Fin.ext (by simp [Rect.emb, Rect.unit])

theorem emb3 {n m k a b d o p q : ℕ} {inb} (i : Fin a) (j : Fin b) (l : Fin d) (h1 : o + i.val < n) (h2 : p + j.val < m) (h3 : q + l.val < k) :
    (Rect.unit (s := ⟨3, ![n, m, k]⟩) ![o, p, q] (⟨3, ![a, b, d]⟩ : Shape).size inb).emb (ix3 i j l)
      = ix3 ⟨o + i.val, h1⟩ ⟨p + j.val, h2⟩ ⟨q + l.val, h3⟩ := by
  funext x
  match x with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

theorem emb4 {n m k g a b d f o p q t : ℕ} {inb} (i : Fin a) (j : Fin b) (l : Fin d) (u : Fin f) (h1 : o + i.val < n) (h2 : p + j.val < m) (h3 : q + l.val < k) (h4 : t + u.val < g) :
    (Rect.unit (s := ⟨4, ![n, m, k, g]⟩) ![o, p, q, t] (⟨4, ![a, b, d, f]⟩ : Shape).size inb).emb (ix4 i j l u)
      = ix4 ⟨o + i.val, h1⟩ ⟨p + j.val, h2⟩ ⟨q + l.val, h3⟩ ⟨t + u.val, h4⟩ := by
  funext x
  match x with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])
  | ⟨3, _⟩ => exact Fin.ext (by simp [Rect.emb, Rect.unit])

/-! ## The pair's own blocks -/

/-- A pair's row of queries' scales, scores' normalisers or row sums: two rows side by side. -/
theorem cat_ok {a b : FVec Ideal S1x128 .f32} {f : Fin 8 → Fin 128 → EReal} {hc}
    (ha : ∀ i : Fin 128, a (ix2 0 i) = f ⟨2 * hp.val, by omega⟩ i)
    (hb : ∀ i : Fin 128, b (ix2 0 i) = f ⟨2 * hp.val + 1, by omega⟩ i) (l : Fin 256) :
    concatenate S1x256 1 [⟨S1x128, a⟩, ⟨S1x128, b⟩] hc (ix2 0 l) = f (hd hp l) (ln l) := by
  pointwise []
  split
  · rename_i h
    rw [ha]
    congr 1
    · exact Fin.ext (by simp [hd]; omega)
    · exact Fin.ext (by simp [ln]; omega)
  · rename_i h
    rw [hb]
    congr 1
    · exact Fin.ext (by simp [hd]; omega)
    · exact Fin.ext (by simp [ln]; omega)

/-- One row of a block of rows. -/
theorem row_ok {m : Memref sig .tc .vmem S1x8x128 .f32} {hm : m.IsWhole} {x : S1x8x128.Idx → Elt Ideal .f32} {f : Fin 8 → Fin 128 → EReal}
    {h : ℕ} {inb hs} (hh : h < 8) (hx : ∀ (h : Fin 8) (i : Fin 128), x (ix3 0 h i) = f h i) (i : Fin 128) :
    shapeCast S1x128 (View.readAt (Elt Ideal) m.view (Rect.unit (s := S1x8x128) ![0, h, 0] S1x1x128.size inb).toLoadRect (hm.unread x)) hs (ix2 0 i) = f ⟨h, hh⟩ i := by
  pointwise []
  rw [← hx]
  refine (rd (m := m) (hm := hm) (x := x) (Rect.unit (s := S1x8x128) ![0, h, 0] S1x1x128.size inb) (ix3 0 0 i)).trans (congrArg x ?_)
  refine (emb3 (0 : Fin 1) (0 : Fin 1) i (by simp) (by simpa using hh) (by simp)).trans ?_
  funext a; match a with
  | ⟨0, _⟩ => rfl
  | ⟨1, _⟩ => rfl
  | ⟨2, _⟩ => exact Fin.ext (by simp)

theorem qsl_ok {a : FVec Ideal S1x256 .f32}
    (h : ∀ l : Fin 256, a (ix2 0 l) = B.qs (hd hp l) (ln l)) (l : Fin 256) :
    mulf a (broadcast S1x256 (Named.named (F := Ideal) κ (φ := .f32) "scale_log2e" 0x3DD53B95#32)) (ix2 0 l) = B.qs (hd hp l) (ln l) * cKL := by
  pointwise []
  rw [h]; rfl

theorem lsel_ok {a : FVec Ideal S1x256 .f32}
    (h : ∀ l : Fin 256, a (ix2 0 l) = B.lse (hd hp l) (ln l)) (l : Fin 256) :
    mulf a (broadcast S1x256 (Named.named (F := Ideal) κ (φ := .f32) "log2e" 0x3FB8AA3B#32)) (ix2 0 l) = B.lse (hd hp l) (ln l) * cL := by
  pointwise []
  rw [h]; rfl

theorem qsb_ok {a : FVec Ideal S1x256 .f32} {h1 h2 h3}
    (h : ∀ l : Fin 256, a (ix2 0 l) = B.qs (hd hp l) (ln l)) (j : Fin 16) (l : Fin 256) :
    truncf .bf16 (broadcastTo S16x256 (shapeCast S1x256 a h1) h2) h3 (ix2 j l) = B.qs (hd hp l) (ln l) := by
  pointwise []
  exact h l

/-- The output gradient's scales of the block's queries, twice side by side. -/
theorem ds_ok {m : Memref sig .tc .vmem S2x384 .f32} {hm : m.IsWhole} {x : S2x384.Idx → Elt Ideal .f32} {g : BitVec 32} {u : ℕ} {i1 i2 h1 h2 hc}
    (hu : u + 128 ≤ 384)
    (hx : ∀ i : Fin 128, (if g = 0#32 then x (ix2 0 ⟨u + i.val, by omega⟩) else x (ix2 1 ⟨u + i.val, by omega⟩)) = B.ds i) (l : Fin 256) :
    concatenate S1x256 1
      [⟨S1x128, extractStridedSlice S1x128 ![0, u] (Scalar.select (Scalar.cmpi .eq g 0#32)
        (View.readAt (Elt Ideal) m.view (Rect.unit (s := S2x384) ![0, 0] S1x384.size i1).toLoadRect (hm.unread x))
        (View.readAt (Elt Ideal) m.view (Rect.unit (s := S2x384) ![1, 0] S1x384.size i2).toLoadRect (hm.unread x)) : FVec Ideal S1x384 .f32) h1⟩,
       ⟨S1x128, extractStridedSlice S1x128 ![0, u] (Scalar.select (Scalar.cmpi .eq g 0#32)
        (View.readAt (Elt Ideal) m.view (Rect.unit (s := S2x384) ![0, 0] S1x384.size i1).toLoadRect (hm.unread x))
        (View.readAt (Elt Ideal) m.view (Rect.unit (s := S2x384) ![1, 0] S1x384.size i2).toLoadRect (hm.unread x)) : FVec Ideal S1x384 .f32) h2⟩] hc (ix2 0 l) = B.ds (ln l) := by
  have key : ∀ (h : (S1x384 : Shape).Slices ![0, u] S1x128) (i : Fin 128), extractStridedSlice S1x128 ![0, u] (Scalar.select (Scalar.cmpi .eq g 0#32)
        (View.readAt (Elt Ideal) m.view (Rect.unit (s := S2x384) ![0, 0] S1x384.size i1).toLoadRect (hm.unread x))
        (View.readAt (Elt Ideal) m.view (Rect.unit (s := S2x384) ![1, 0] S1x384.size i2).toLoadRect (hm.unread x)) : FVec Ideal S1x384 .f32) h (ix2 0 i) = B.ds i := by
    intro h i
    rw [← hx]
    have e0 : ∀ (v : FVec Ideal S1x384 .f32), extractStridedSlice S1x128 ![0, u] v h (ix2 0 i) = v (ix2 0 ⟨u + i.val, by omega⟩) := fun v =>
      congrArg v (funext fun a => by
        match a with
        | ⟨0, _⟩ => exact Fin.ext (by simp)
        | ⟨1, _⟩ => exact Fin.ext (by simp))
    rw [e0]
    by_cases hg : g = 0#32
    · rw [if_pos hg]
      have : Scalar.cmpi .eq g 0#32 = 1#1 := by simp [Scalar.cmpi, IntOp.cmpi, hg]
      rw [this]
      refine (rd (m := m) (hm := hm) (x := x) (Rect.unit (s := S2x384) ![0, 0] S1x384.size i1) (ix2 0 ⟨u + i.val, by omega⟩)).trans (congrArg x ?_)
      refine (emb2 (0 : Fin 1) (⟨u + i.val, by omega⟩ : Fin 384) (by simp) (by simp; omega)).trans ?_
      funext a; match a with
      | ⟨0, _⟩ => rfl
      | ⟨1, _⟩ => exact Fin.ext (by simp)
    · rw [if_neg hg]
      have hb : (g == 0#32) = false := by simpa using hg
      have : Scalar.cmpi .eq g 0#32 = 0#1 := by simp only [Scalar.cmpi, IntOp.cmpi, hb]; rfl
      rw [this]
      refine (rd (m := m) (hm := hm) (x := x) (Rect.unit (s := S2x384) ![1, 0] S1x384.size i2) (ix2 0 ⟨u + i.val, by omega⟩)).trans (congrArg x ?_)
      refine (emb2 (0 : Fin 1) (⟨u + i.val, by omega⟩ : Fin 384) (by simp) (by simp; omega)).trans ?_
      funext a; match a with
      | ⟨0, _⟩ => rfl
      | ⟨1, _⟩ => exact Fin.ext (by simp)
  refine (cat_ok (hp := 0) (f := fun _ i => B.ds i) ?_ ?_ l)
  · exact fun i => key h1 i
  · exact fun i => key h2 i

/-- One head's query codes. -/
theorem qh_ok {m : Memref sig .tc .vmem S1x8x576x128 .fp8e4m3} {hm : m.IsWhole} {x : S1x8x576x128.Idx → Elt Ideal .fp8e4m3}
    {a : ℕ} {i1 h1} (ha : a < 8)
    (hx : ∀ (h : Fin 8) (r : Fin 576) (i : Fin 128), x (ix4 0 h r i) = B.q h r i) (r : Fin 576) (i : Fin 128) :
    (shapeCast S576x128 (View.readAt (Elt Ideal) m.view (Rect.unit (s := S1x8x576x128) ![0, a, 0, 0] S1x1x576x128.size i1).toLoadRect (hm.unread x)) h1 : FVec Ideal S576x128 .fp8e4m3) (ix2 r i)
      = B.q ⟨a, ha⟩ r i := by
  have sc : ∀ (x : FVec Ideal S1x1x576x128 .fp8e4m3), shapeCast S576x128 x h1 (ix2 r i) = x (ix4 0 0 r i) := by
    intro x
    pointwise []
  refine (sc _).trans ?_
  refine (rd (m := m) (hm := hm) (x := x) (Rect.unit (s := S1x8x576x128) ![0, a, 0, 0] S1x1x576x128.size i1) (ix4 0 0 r i)).trans ?_
  rw [← hx]
  refine congrArg x ((emb4 (0 : Fin 1) (0 : Fin 1) r i (by simp) (by simpa using ha) (by simp) (by simp)).trans ?_)
  funext z; match z with
  | ⟨0, _⟩ => rfl
  | ⟨1, _⟩ => exact Fin.ext (by simp)
  | ⟨2, _⟩ => exact Fin.ext (by simp)
  | ⟨3, _⟩ => exact Fin.ext (by simp)

/-- The pair's query codes: two heads side by side. -/
theorem qt_ok {a b : FVec Ideal S576x128 .fp8e4m3} {hc}
    (ha : ∀ (r : Fin 576) (i : Fin 128), a (ix2 r i) = B.q ⟨2 * hp.val, by omega⟩ r i)
    (hb : ∀ (r : Fin 576) (i : Fin 128), b (ix2 r i) = B.q ⟨2 * hp.val + 1, by omega⟩ r i) (r : Fin 576) (l : Fin 256) :
    concatenate S576x256 1 [⟨S576x128, a⟩, ⟨S576x128, b⟩] hc (ix2 r l) = B.q (hd hp l) r (ln l) := by
  pointwise []
  split
  · rename_i h
    rw [ha]
    congr 1
    · exact Fin.ext (by simp [hd]; omega)
    · exact Fin.ext (by simp [ln]; omega)
  · rename_i h
    rw [hb]
    congr 1
    · exact Fin.ext (by simp [hd]; omega)
    · exact Fin.ext (by simp [ln]; omega)

/-- Its compressed part, -/
theorem qc_ok {x : FVec Ideal S576x256 .fp8e4m3} {h1} (h : ∀ (r : Fin 576) (l : Fin 256), x (ix2 r l) = B.q (hd hp l) r (ln l)) (r : Fin 512) (l : Fin 256) :
    extractStridedSlice S512x256 ![0, 0] x h1 (ix2 r l) = B.q (hd hp l) ⟨r.val, by omega⟩ (ln l) := by
  pointwise []
  rw [h]

/-- and its rope part. -/
theorem qr_ok {x : FVec Ideal S576x256 .fp8e4m3} {h1 h2} (h : ∀ (r : Fin 576) (l : Fin 256), x (ix2 r l) = B.q (hd hp l) r (ln l)) (r : Fin 64) (l : Fin 256) :
    extf .bf16 (extractStridedSlice S64x256 ![512, 0] x h1) h2 (ix2 r l) = B.q (hd hp l) ⟨512 + r.val, by omega⟩ (ln l) := by
  pointwise []
  exact h _ _

/-! ## The keys -/

theorem sc128 {x : FVec Ideal S1x128x512 .fp8e4m3} {h} (j : Fin 128) (r : Fin 512) : shapeCast S128x512 x h (ix2 j r) = x (ix3 0 j r) := by
  pointwise []

theorem ldc128 {m : Memref sig .tc .vmem S1x384x512 .fp8e4m3} {hm : m.IsWhole} {x : S1x384x512.Idx → Elt Ideal .fp8e4m3} {inb h}
    (hx : ∀ (j : Fin 384) (r : Fin 512), x (ix3 0 j r) = B.c j r) (j : Fin 128) (r : Fin 512) :
    (shapeCast S128x512 (View.readAt (Elt Ideal) m.view (Rect.unit (s := S1x384x512) ![0, 0, 0] S1x128x512.size inb).toLoadRect (hm.unread x)) h : FVec Ideal S128x512 .fp8e4m3) (ix2 j r)
      = B.c ⟨j.val, by omega⟩ r := by
  rw [← hx]
  refine (sc128 j r).trans ?_
  refine (rd (m := m) (hm := hm) (x := x) (Rect.unit (s := S1x384x512) ![0, 0, 0] S1x128x512.size inb) (ix3 0 j r)).trans (congrArg x ?_)
  refine (emb3 (0 : Fin 1) j r (by simp) (by have := j.isLt; show 0 + j.val < 384; omega) (by simp)).trans ?_
  funext a; match a with
  | ⟨0, _⟩ => rfl
  | ⟨1, _⟩ => exact Fin.ext (by simp)
  | ⟨2, _⟩ => exact Fin.ext (by simp)

theorem sc256 {x : FVec Ideal S1x256x512 .fp8e4m3} {h} (j : Fin 256) (r : Fin 512) : shapeCast S256x512 x h (ix2 j r) = x (ix3 0 j r) := by
  pointwise []

theorem ldc256 {m : Memref sig .tc .vmem S1x384x512 .fp8e4m3} {hm : m.IsWhole} {x : S1x384x512.Idx → Elt Ideal .fp8e4m3} {inb h}
    (hx : ∀ (j : Fin 384) (r : Fin 512), x (ix3 0 j r) = B.c j r) (j : Fin 256) (r : Fin 512) :
    (shapeCast S256x512 (View.readAt (Elt Ideal) m.view (Rect.unit (s := S1x384x512) ![0, 0, 0] S1x256x512.size inb).toLoadRect (hm.unread x)) h : FVec Ideal S256x512 .fp8e4m3) (ix2 j r)
      = B.c ⟨j.val, by omega⟩ r := by
  rw [← hx]
  refine (sc256 j r).trans ?_
  refine (rd (m := m) (hm := hm) (x := x) (Rect.unit (s := S1x384x512) ![0, 0, 0] S1x256x512.size inb) (ix3 0 j r)).trans (congrArg x ?_)
  refine (emb3 (0 : Fin 1) j r (by simp) (by have := j.isLt; show 0 + j.val < 384; omega) (by simp)).trans ?_
  funext a; match a with
  | ⟨0, _⟩ => rfl
  | ⟨1, _⟩ => exact Fin.ext (by simp)
  | ⟨2, _⟩ => exact Fin.ext (by simp)

theorem sc384 {x : FVec Ideal S1x384x512 .fp8e4m3} {h} (j : Fin 384) (r : Fin 512) : shapeCast S384x512 x h (ix2 j r) = x (ix3 0 j r) := by
  pointwise []

theorem ldc384 {m : Memref sig .tc .vmem S1x384x512 .fp8e4m3} {hm : m.IsWhole} {x : S1x384x512.Idx → Elt Ideal .fp8e4m3} {inb h}
    (hx : ∀ (j : Fin 384) (r : Fin 512), x (ix3 0 j r) = B.c j r) (j : Fin 384) (r : Fin 512) :
    (shapeCast S384x512 (View.readAt (Elt Ideal) m.view (Rect.unit (s := S1x384x512) ![0, 0, 0] S1x384x512.size inb).toLoadRect (hm.unread x)) h : FVec Ideal S384x512 .fp8e4m3) (ix2 j r)
      = B.c ⟨j.val, by omega⟩ r := by
  rw [← hx]
  refine (sc384 j r).trans ?_
  refine (rd (m := m) (hm := hm) (x := x) (Rect.unit (s := S1x384x512) ![0, 0, 0] S1x384x512.size inb) (ix3 0 j r)).trans (congrArg x ?_)
  refine (emb3 (0 : Fin 1) j r (by simp) (by have := j.isLt; show 0 + j.val < 384; omega) (by simp)).trans ?_
  funext a; match a with
  | ⟨0, _⟩ => rfl
  | ⟨1, _⟩ => exact Fin.ext (by simp)
  | ⟨2, _⟩ => exact Fin.ext (by simp)

/-- A block of a scratch whose contents are known, read from its first row and column. -/
theorem ld2 {e : EltTy} {n k a b : ℕ} {m : Memref sig .tc .vmem ⟨2, ![n, k]⟩ e} {hm : m.IsWhole} {x : (⟨2, ![n, k]⟩ : Shape).Idx → Elt Ideal e} {o : ℕ} {inb}
    {f : Fin n → Fin k → Elt Ideal e} (ho : o + a ≤ n) (hb : b ≤ k)
    (hx : ∀ (j : Fin n) (r : Fin k), x (ix2 j r) = f j r) (j : Fin a) (r : Fin b) :
    View.readAt (Elt Ideal) m.view (Rect.unit (s := ⟨2, ![n, k]⟩) ![o, 0] (⟨2, ![a, b]⟩ : Shape).size inb).toLoadRect (hm.unread x) (ix2 j r)
      = f ⟨o + j.val, by omega⟩ ⟨r.val, by omega⟩ := by
  refine (rd (m := m) (hm := hm) (x := x) (Rect.unit (s := ⟨2, ![n, k]⟩) ![o, 0] (⟨2, ![a, b]⟩ : Shape).size inb) (ix2 j r)).trans ?_
  rw [← hx]
  refine congrArg x ((emb2 j r (by omega) (by omega)).trans ?_)
  funext z; match z with
  | ⟨0, _⟩ => rfl
  | ⟨1, _⟩ => exact Fin.ext (by simp)

/-- The same of stored contents. -/
theorem lc2 {e : EltTy} {n k a b : ℕ} {m : Memref sig .tc .vmem ⟨2, ![n, k]⟩ e} {L : List (View.Piece (Elt Ideal) (⟨2, ![n, k]⟩ : Shape) e)} {o : ℕ} {inb}
    {f : Fin n → Fin k → Elt Ideal e} (ho : o + a ≤ n) (hb : b ≤ k)
    (hx : ∀ (j : Fin n) (r : Fin k), View.canon (Val := Elt Ideal) L (ix2 j r) = f j r) (j : Fin a) (r : Fin b) :
    m.view.readCov L (Rect.unit (s := ⟨2, ![n, k]⟩) ![o, 0] (⟨2, ![a, b]⟩ : Shape).size inb).toLoadRect (ix2 j r)
      = f ⟨o + j.val, by omega⟩ ⟨r.val, by omega⟩ := by
  refine (rc (m := m) (L := L) (Rect.unit (s := ⟨2, ![n, k]⟩) ![o, 0] (⟨2, ![a, b]⟩ : Shape).size inb) (ix2 j r)).trans ?_
  rw [← hx]
  refine congrArg _ ((emb2 j r (by omega) (by omega)).trans ?_)
  funext z; match z with
  | ⟨0, _⟩ => rfl
  | ⟨1, _⟩ => exact Fin.ext (by simp)

/-- A pair's scratch read back. -/
theorem lcs {m : Memref sig .tc .vmem S2x384x256 .bf16} {L : List (View.Piece (Elt Ideal) S2x384x256 .bf16)} {s n k : ℕ} {inb} {hn}
    {f : Fin 384 → Fin 256 → EReal} (hs : s < 2) (hk : k = 32 * n) (hL : RowsOK f ⟨s, hs⟩ n hn L) (j : Fin k) (l : Fin 256) :
    m.view.readCov L (Rect.unit (s := S2x384x256) ![s, 0, 0] (⟨3, ![1, k, 256]⟩ : Shape).size inb).toLoadRect (ix3 0 j l) = f ⟨j.val, by omega⟩ l := by
  refine (rc (m := m) (L := L) (Rect.unit (s := S2x384x256) ![s, 0, 0] (⟨3, ![1, k, 256]⟩ : Shape).size inb) (ix3 (0 : Fin 1) j l)).trans ?_
  rw [← hL ⟨j.val, by omega⟩ l (by simp; omega)]
  refine congrArg _ ((emb3 (0 : Fin 1) j l (by simpa using hs) (by simp; omega) (by simp)).trans ?_)
  funext z; match z with
  | ⟨0, _⟩ => exact Fin.ext (by simp)
  | ⟨1, _⟩ => exact Fin.ext (by simp)
  | ⟨2, _⟩ => exact Fin.ext (by simp)

/-! ## The transposed output gradient -/

/-- After `n` steps: the word at row `288 p + 36 w + sg` holds the codes of tokens `4 sg .. 4 sg + 3` at row `4 w + p`. -/
def DorOK (B : Blk) (n : ℕ) (L : List (View.Piece (Elt Ideal) S1152x128 .i32)) : Prop :=
  ∀ (p : Fin 4) (sg : Fin 32) (w : Fin 8) (l : Fin 128) (j : Fin 4), sg.val < n →
    byteOf (View.canon (Val := Elt Ideal) L (ix2 ⟨288 * p.val + 36 * w.val + sg.val, by omega⟩ l)) j.val
      = B.dob ⟨4 * sg.val + j.val, by omega⟩ ⟨4 * w.val + p.val, by omega⟩ l

/-- A word vector stored for byte `p` at step `n`. -/
def WordOK (B : Blk) (n p : ℕ) (v : S8x128.Idx → BitVec 32) : Prop :=
  ∀ (hn : n < 32) (hp : p < 4) (w : Fin 8) (l : Fin 128) (j : Fin 4), byteOf (v (ix2 w l)) j.val = B.dob ⟨4 * n + j.val, by omega⟩ ⟨4 * w.val + p, by omega⟩ l

theorem dor_zero {L} : DorOK B 0 L := fun p sg w l j h => absurd h (by omega)

/-- A strided piece misses an index whose row is not on it. -/
theorem canon_stride {L : List (View.Piece (Elt Ideal) S1152x128 .i32)} {v : S8x128.Idx → Elt Ideal .i32} {o : ℕ} {inb pos}
    (p w sg q n : ℕ) (h : 288 * p + 36 * w + sg < 1152) (hw : w < 8) (hsg : sg < 32) (ho : o = 288 * q + n) (hn : n < 32) (l : Fin 128) :
    View.canon (Val := Elt Ideal) (⟨⟨⟨![o, 0], S8x128.size, ![36, 1], inb⟩, pos⟩, v⟩ :: L : List (View.Piece (Elt Ideal) S1152x128 .i32)) (ix2 ⟨288 * p + 36 * w + sg, h⟩ l)
      = if p = q ∧ sg = n then v (ix2 ⟨w, hw⟩ l) else View.canon (Val := Elt Ideal) L (ix2 ⟨288 * p + 36 * w + sg, h⟩ l) := by
  split
  · rename_i hc
    have e : (ix2 ⟨288 * p + 36 * w + sg, h⟩ l : S1152x128.Idx)
        = (⟨⟨![o, 0], S8x128.size, ![36, 1], inb⟩, pos⟩ : Rect S1152x128).emb (ix2 (⟨w, hw⟩ : Fin 8) l) := by
      funext a
      match a with
      | ⟨0, _⟩ => exact Fin.ext (by show 288 * p + 36 * w + sg = o + 36 * w; omega)
      | ⟨1, _⟩ => exact Fin.ext (by show l.val = 0 + 1 * l.val; omega)
    rw [e, View.canon_cons_emb]
  · rename_i hc
    refine View.canon_cons_of_not_mem _ _ fun hm => hc ?_
    obtain ⟨x, hx, e⟩ := ((⟨![o, 0], S8x128.size, ![36, 1], inb⟩ : LoadRect S1152x128).mem_set.mp hm) (0 : Fin 2)
    have hx' : x < 8 := hx
    have e' : 288 * p + 36 * w + sg = o + 36 * x := e
    omega

/-- One more step of the transposition. -/
theorem dor_step {L : List (View.Piece (Elt Ideal) S1152x128 .i32)} {n : ℕ} (hn : n < 32) {o0 o1 o2 o3 : ℕ} {v0 v1 v2 v3 : S8x128.Idx → BitVec 32} {i0 i1 i2 i3 s0 s1 s2 s3}
    (e0 : o0 = n) (e1 : o1 = 288 + n) (e2 : o2 = 576 + n) (e3 : o3 = 864 + n)
    (hL : DorOK B n L) (h0 : WordOK B n 0 v0) (h1 : WordOK B n 1 v1) (h2 : WordOK B n 2 v2) (h3 : WordOK B n 3 v3) :
    DorOK B (n + 1) (⟨⟨⟨![o3, 0], S8x128.size, ![36, 1], i3⟩, s3⟩, v3⟩ :: ⟨⟨⟨![o2, 0], S8x128.size, ![36, 1], i2⟩, s2⟩, v2⟩
      :: ⟨⟨⟨![o1, 0], S8x128.size, ![36, 1], i1⟩, s1⟩, v1⟩ :: ⟨⟨⟨![o0, 0], S8x128.size, ![36, 1], i0⟩, s0⟩, v0⟩ :: L) := by
  intro p sg w l j hs
  rw [canon_stride p.val w.val sg.val 3 n (by omega) w.isLt sg.isLt (by omega) hn, canon_stride p.val w.val sg.val 2 n (by omega) w.isLt sg.isLt (by omega) hn,
    canon_stride p.val w.val sg.val 1 n (by omega) w.isLt sg.isLt (by omega) hn, canon_stride p.val w.val sg.val 0 n (by omega) w.isLt sg.isLt (by omega) hn]
  by_cases hsn : sg.val = n
  · have hp := p.isLt
    have key : ∀ (k : ℕ) (hk : k < 4) (v : S8x128.Idx → BitVec 32), WordOK B n k v → p.val = k →
        byteOf (v (ix2 w l)) j.val = B.dob ⟨4 * sg.val + j.val, by omega⟩ ⟨4 * w.val + p.val, by omega⟩ l := by
      intro k hk v hv hpk
      rw [hv hn hk w l j]
      congr 1
      · exact Fin.ext (by simp [hsn])
      · exact Fin.ext (by simp [hpk])
    rcases (by omega : p.val = 0 ∨ p.val = 1 ∨ p.val = 2 ∨ p.val = 3) with h | h | h | h
    · simp only [h, hsn]; simpa [h, hsn] using key 0 (by decide) v0 h0 h
    · simp only [h, hsn]; simpa [h, hsn] using key 1 (by decide) v1 h1 h
    · simp only [h, hsn]; simpa [h, hsn] using key 2 (by decide) v2 h2 h
    · simp only [h, hsn]; simpa [h, hsn] using key 3 (by decide) v3 h3 h
  · simp only [hsn, and_false, if_false]
    exact hL p sg w l j (by omega)

/-- A token's codes packed four rows to a word. -/
def TokOK (B : Blk) (t : ℕ) (a : S8x128.Idx → BitVec 32) : Prop :=
  ∀ (ht : t < 128) (w : Fin 8) (l : Fin 128) (p : ℕ) (hp : p < 4), byteOf (a (ix2 w l)) p = B.dob ⟨t, ht⟩ ⟨4 * w.val + p, by omega⟩ l

theorem tile_ok {e : EltTy} {m : Memref sig .tc .vmem S128x1x32x128 e} {hm : m.IsWhole} {x : S128x1x32x128.Idx → Elt Ideal e} {f : Fin 128 → Fin 32 → Fin 128 → Elt Ideal e}
    {t : ℕ} {inb} (ht : t < 128) (hx : ∀ (t : Fin 128) (r : Fin 32) (l : Fin 128), x (ix4 t 0 r l) = f t r l) (r : Fin 32) (l : Fin 128) :
    View.readAt (Elt Ideal) m.view (Rect.unit (s := S128x1x32x128) ![t, 0, 0, 0] S1x1x32x128.size inb).toLoadRect (hm.unread x) (ix4 0 0 r l) = f ⟨t, ht⟩ r l := by
  refine (rd (m := m) (hm := hm) (x := x) (Rect.unit (s := S128x1x32x128) ![t, 0, 0, 0] S1x1x32x128.size inb) (ix4 0 0 r l)).trans ?_
  rw [← hx]
  refine congrArg x ((emb4 (0 : Fin 1) (0 : Fin 1) r l (by simpa using ht) (by simp) (by simp) (by simp)).trans ?_)
  funext z; match z with
  | ⟨0, _⟩ => exact Fin.ext (by simp)
  | ⟨1, _⟩ => rfl
  | ⟨2, _⟩ => exact Fin.ext (by simp)
  | ⟨3, _⟩ => exact Fin.ext (by simp)

theorem sct {e : EltTy} {x : S1x1x32x128.Idx → Elt Ideal e} {h} (r : Fin 32) (l : Fin 128) : shapeCast S32x128 x h (ix2 r l) = x (ix4 0 0 r l) := by
  pointwise []

theorem tok_ok {m : Memref sig .tc .vmem S128x1x32x128 .i8} {hm : m.IsWhole} {x : S128x1x32x128.Idx → Elt Ideal .i8} {t : ℕ} {inb h1 h2}
    (hx : ∀ (t : Fin 128) (r : Fin 32) (l : Fin 128), x (ix4 t 0 r l) = B.dob t r l) :
    TokOK B t (bitcast S8x128 32 (shapeCast S32x128 (View.readAt (Elt Ideal) m.view (Rect.unit (s := S128x1x32x128) ![t, 0, 0, 0] S1x1x32x128.size inb).toLoadRect (hm.unread x)) h1 : IVec S32x128 8) h2) := by
  intro ht w l p hp
  refine (bitcast_8_32 _ h2 w l p hp ⟨4 * w.val + p, by omega⟩ rfl).trans ?_
  exact (sct (e := .i8) _ _).trans (tile_ok ht hx _ _)

section
variable {a0 a1 a2 a3 : IVec S8x128 32} {n : ℕ} {hs : S8x128.ShapeCasts S8x128}
    (h0 : TokOK B (4 * n) a0) (h1 : TokOK B (4 * n + 1) a1) (h2 : TokOK B (4 * n + 2) a2) (h3 : TokOK B (4 * n + 3) a3)
include h0 h1 h2 h3

theorem pick_ok {hn : n < 32} (w : Fin 8) (l : Fin 128) (j : Fin 4) (p : ℕ) (hp : p < 4) :
    byteOf (pick (a0 (ix2 w l)) (a1 (ix2 w l)) (a2 (ix2 w l)) (a3 (ix2 w l)) j.val) p = B.dob ⟨4 * n + j.val, by omega⟩ ⟨4 * w.val + p, by omega⟩ l := by
  match j with
  | ⟨0, _⟩ => exact h0 (by omega) w l p hp
  | ⟨1, _⟩ => exact h1 (by omega) w l p hp
  | ⟨2, _⟩ => exact h2 (by omega) w l p hp
  | ⟨3, _⟩ => exact h3 (by omega) w l p hp

theorem word0_ok : WordOK B n 0 (shapeCast S8x128 (xori (ori (andi a0 (broadcast S8x128 65535#32)) (shli a2 (broadcast S8x128 16#32)))
    (shli (andi (xori (shrui (ori (andi a0 (broadcast S8x128 65535#32)) (shli a2 (broadcast S8x128 16#32))) (broadcast S8x128 8#32))
      (ori (andi a1 (broadcast S8x128 65535#32)) (shli a3 (broadcast S8x128 16#32)))) (broadcast S8x128 16711935#32)) (broadcast S8x128 8#32))) hs) := by
  intro hn hp w l j
  pointwise []
  exact (tr0_byte _ _ _ _ j.val j.isLt).trans (pick_ok (hn := hn) h0 h1 h2 h3 w l j 0 (by decide))

theorem word1_ok : WordOK B n 1 (shapeCast S8x128 (xori (ori (andi a1 (broadcast S8x128 65535#32)) (shli a3 (broadcast S8x128 16#32)))
    (andi (xori (shrui (ori (andi a0 (broadcast S8x128 65535#32)) (shli a2 (broadcast S8x128 16#32))) (broadcast S8x128 8#32))
      (ori (andi a1 (broadcast S8x128 65535#32)) (shli a3 (broadcast S8x128 16#32)))) (broadcast S8x128 16711935#32))) hs) := by
  intro hn hp w l j
  pointwise []
  exact (tr1_byte _ _ _ _ j.val j.isLt).trans (pick_ok (hn := hn) h0 h1 h2 h3 w l j 1 (by decide))

theorem word2_ok : WordOK B n 2 (shapeCast S8x128 (xori (ori (shrui a0 (broadcast S8x128 16#32)) (andi a2 (broadcast S8x128 4294901760#32)))
    (shli (andi (xori (shrui (ori (shrui a0 (broadcast S8x128 16#32)) (andi a2 (broadcast S8x128 4294901760#32))) (broadcast S8x128 8#32))
      (ori (shrui a1 (broadcast S8x128 16#32)) (andi a3 (broadcast S8x128 4294901760#32)))) (broadcast S8x128 16711935#32)) (broadcast S8x128 8#32))) hs) := by
  intro hn hp w l j
  pointwise []
  exact (tr2_byte _ _ _ _ j.val j.isLt).trans (pick_ok (hn := hn) h0 h1 h2 h3 w l j 2 (by decide))

theorem word3_ok : WordOK B n 3 (shapeCast S8x128 (xori (ori (shrui a1 (broadcast S8x128 16#32)) (andi a3 (broadcast S8x128 4294901760#32)))
    (andi (xori (shrui (ori (shrui a0 (broadcast S8x128 16#32)) (andi a2 (broadcast S8x128 4294901760#32))) (broadcast S8x128 8#32))
      (ori (shrui a1 (broadcast S8x128 16#32)) (andi a3 (broadcast S8x128 4294901760#32)))) (broadcast S8x128 16711935#32))) hs) := by
  intro hn hp w l j
  pointwise []
  exact (tr3_byte _ _ _ _ j.val j.isLt).trans (pick_ok (hn := hn) h0 h1 h2 h3 w l j 3 (by decide))
end

/-- Four row blocks side by side, read as bytes: the codes of head `h`. -/
theorem doh_ok {m : Memref sig .tc .vmem S1152x128 .i32} {L : List (View.Piece (Elt Ideal) S1152x128 .i32)} {o0 o1 o2 o3 : ℕ} {i0 i1 i2 i3 hc hb}
    {h : ℕ} (hh : h < 8) (e0 : o0 = 288 * (h % 4) + 36 * (h / 4)) (e1 : o1 = 288 * (h % 4) + 36 * (h / 4 + 2)) (e2 : o2 = 288 * (h % 4) + 36 * (h / 4 + 4))
    (e3 : o3 = 288 * (h % 4) + 36 * (h / 4 + 6)) (hL : DorOK B 32 L) (i : Fin 128) (r : Fin 512) :
    bitcastToFloat (F := Ideal) .fp8e5m2 (bitcast S128x512 8 (concatenate S32x512 1
      [⟨S32x128, m.view.readCov L (Rect.unit (s := S1152x128) ![o0, 0] S32x128.size i0).toLoadRect⟩,
       ⟨S32x128, m.view.readCov L (Rect.unit (s := S1152x128) ![o1, 0] S32x128.size i1).toLoadRect⟩,
       ⟨S32x128, m.view.readCov L (Rect.unit (s := S1152x128) ![o2, 0] S32x128.size i2).toLoadRect⟩,
       ⟨S32x128, m.view.readCov L (Rect.unit (s := S1152x128) ![o3, 0] S32x128.size i3).toLoadRect⟩] hc : IVec S32x512 32) hb) (ix2 i r)
      = B.dof ⟨h, hh⟩ i r := by
  have cat : ∀ (v : Fin 4 → IVec S32x128 32) (hc) (p : Fin 32), concatenate S32x512 1 [⟨S32x128, v 0⟩, ⟨S32x128, v 1⟩, ⟨S32x128, v 2⟩, ⟨S32x128, v 3⟩] hc (ix2 p r)
      = v ⟨r.val / 128, by omega⟩ (ix2 p ⟨r.val % 128, by omega⟩) := by
    intro v hc p
    have hr := r.isLt
    pointwise []
    split
    · exact congrArg₂ (fun (k : Fin 4) q => v k (ix2 p q)) (Fin.ext (by show 0 = r.val / 128; omega)) (Fin.ext (by dsimp only; omega))
    · split
      · exact congrArg₂ (fun (k : Fin 4) q => v k (ix2 p q)) (Fin.ext (by show 1 = r.val / 128; omega)) (Fin.ext (by dsimp only; omega))
      · split
        · exact congrArg₂ (fun (k : Fin 4) q => v k (ix2 p q)) (Fin.ext (by show 2 = r.val / 128; omega)) (Fin.ext (by dsimp only; omega))
        · exact congrArg₂ (fun (k : Fin 4) q => v k (ix2 p q)) (Fin.ext (by show 3 = r.val / 128; omega)) (Fin.ext (by dsimp only; omega))
  have rdw : ∀ (c : Fin 4) (o : ℕ) (inb) (he : o = 288 * (h % 4) + 36 * (h / 4 + 2 * c.val)), byteOf (m.view.readCov L (Rect.unit (s := S1152x128) ![o, 0] S32x128.size inb).toLoadRect
      (ix2 (⟨i.val / 4, by omega⟩ : Fin 32) (⟨r.val % 128, by omega⟩ : Fin 128))) (i.val % 4) = B.dob i ⟨8 * c.val + h, by omega⟩ ⟨r.val % 128, by omega⟩ := by
    intro c o inb he
    have e := lc2 (m := m) (L := L) (o := o) (inb := inb) (f := fun j r => View.canon (Val := Elt Ideal) L (ix2 j r)) (by omega) (by omega) (fun _ _ => rfl)
      (⟨i.val / 4, by omega⟩ : Fin 32) (⟨r.val % 128, by omega⟩ : Fin 128)
    refine (congrArg (fun z => byteOf z (i.val % 4)) e).trans ?_
    have k := hL ⟨h % 4, by omega⟩ ⟨i.val / 4, by omega⟩ ⟨h / 4 + 2 * c.val, by omega⟩ ⟨r.val % 128, by omega⟩ ⟨i.val % 4, by omega⟩ (by show i.val / 4 < 32; omega)
    refine (Eq.trans ?_ k).trans ?_
    · congr 2
      funext a
      match a with
      | ⟨0, _⟩ => exact Fin.ext (by show o + i.val / 4 = 288 * (h % 4) + 36 * (h / 4 + 2 * c.val) + i.val / 4; omega)
      | ⟨1, _⟩ => rfl
    · congr 1
      · exact Fin.ext (by show 4 * (i.val / 4) + i.val % 4 = i.val; omega)
      · exact Fin.ext (by show 4 * (h / 4 + 2 * c.val) + h % 4 = 8 * c.val + h; omega)
  show Ideal.ofBits .fp8e5m2 (bitcast S128x512 8 _ hb (ix2 i r)) = _
  rw [bitcast_32_8 _ hb i r ⟨i.val / 4, by omega⟩ rfl]
  unfold Blk.dof
  congr 1
  refine (congrArg (fun z => byteOf z (i.val % 4)) (cat ![m.view.readCov L (Rect.unit (s := S1152x128) ![o0, 0] S32x128.size i0).toLoadRect,
    m.view.readCov L (Rect.unit (s := S1152x128) ![o1, 0] S32x128.size i1).toLoadRect, m.view.readCov L (Rect.unit (s := S1152x128) ![o2, 0] S32x128.size i2).toLoadRect,
    m.view.readCov L (Rect.unit (s := S1152x128) ![o3, 0] S32x128.size i3).toLoadRect] hc _)).trans ?_
  have hr := r.isLt
  rcases (by omega : r.val / 128 = 0 ∨ r.val / 128 = 1 ∨ r.val / 128 = 2 ∨ r.val / 128 = 3) with hq | hq | hq | hq
  · simp only [hq]
    exact rdw 0 o0 i0 (by simpa using e0)
  · simp only [hq]
    exact rdw 1 o1 i1 (by simpa using e1)
  · simp only [hq]
    exact rdw 2 o2 i2 (by simpa using e2)
  · simp only [hq]
    exact rdw 3 o3 i3 (by simpa using e3)

/-- The pair's output-gradient codes: two heads one below the other. -/
theorem do2_ok {a b : FVec Ideal S128x512 .fp8e5m2} {hc}
    (ha : ∀ (i : Fin 128) (r : Fin 512), a (ix2 i r) = B.dof ⟨2 * hp.val, by omega⟩ i r)
    (hb : ∀ (i : Fin 128) (r : Fin 512), b (ix2 i r) = B.dof ⟨2 * hp.val + 1, by omega⟩ i r) (l : Fin 256) (r : Fin 512) :
    concatenate S256x512 0 [⟨S128x512, a⟩, ⟨S128x512, b⟩] hc (ix2 l r) = B.dof (hd hp l) (ln l) r := by
  pointwise []
  split
  · rename_i h
    rw [ha]
    congr 1
    · exact Fin.ext (by simp [hd]; omega)
    · exact Fin.ext (by simp [ln]; omega)
  · rename_i h
    rw [hb]
    congr 1
    · exact Fin.ext (by simp [hd]; omega)
    · exact Fin.ext (by simp [ln]; omega)

/-! ## The row sums -/

/-- After `n` steps the first `n` columns hold the row sums. -/
def DeltaOK (B : Blk) (n : ℕ) (V : S8x128.Idx → EReal) : Prop :=
  ∀ (h : Fin 8) (i : Fin 128), i.val < n → V (ix2 h i) = B.DELTA h i

theorem delta_zero {V} : DeltaOK B 0 V := fun h i hi => absurd hi (by omega)

theorem prod_ok {m : Memref sig .tc .vmem S128x1x32x128 .i8} {hm : m.IsWhole} {x : S128x1x32x128.Idx → Elt Ideal .i8}
    {m' : Memref sig .tc .vmem S128x1x32x128 .bf16} {hm' : m'.IsWhole} {y : S128x1x32x128.Idx → Elt Ideal .bf16} {t : ℕ} {i1 i2 h1 h2 b1 b2} (ht : t < 128)
    (hx : ∀ (t : Fin 128) (r : Fin 32) (l : Fin 128), x (ix4 t 0 r l) = B.dob t r l)
    (hy : ∀ (t : Fin 128) (r : Fin 32) (l : Fin 128), y (ix4 t 0 r l) = B.o t r l) (r : Fin 32) (l : Fin 128) :
    mulf (F := Ideal) (extf .f32 (bitcastToFloat (F := Ideal) .fp8e5m2 (shapeCast S32x128 (View.readAt (Elt Ideal) m.view (Rect.unit (s := S128x1x32x128) ![t, 0, 0, 0] S1x1x32x128.size i1).toLoadRect (hm.unread x)) h1 : IVec S32x128 8)) b1)
      (extf .f32 (shapeCast S32x128 (View.readAt (Elt Ideal) m'.view (Rect.unit (s := S128x1x32x128) ![t, 0, 0, 0] S1x1x32x128.size i2).toLoadRect (hm'.unread y)) h2 : FVec Ideal S32x128 .bf16) b2) (ix2 r l)
      = Ideal.ofBits .fp8e5m2 (B.dob ⟨t, ht⟩ r l) * B.o ⟨t, ht⟩ r l := by
  have ex := (sct (e := .i8) (h := h1) r l).trans (tile_ok (m := m) (hm := hm) (inb := i1) ht hx r l)
  have ey := (sct (e := .bf16) (h := h2) r l).trans (tile_ok (m := m') (hm := hm') (inb := i2) ht hy r l)
  have p : ∀ (a : IVec S32x128 8) (b : FVec Ideal S32x128 .bf16), mulf (F := Ideal) (extf .f32 (bitcastToFloat (F := Ideal) .fp8e5m2 a) b1) (extf .f32 b b2) (ix2 r l)
      = Ideal.ofBits .fp8e5m2 (a (ix2 r l)) * (b (ix2 r l) : EReal) := by
    intro a b
    pointwise []
  exact (p _ _).trans (congrArg₂ (fun u (v : EReal) => Ideal.ofBits .fp8e5m2 u * v) ex ey)

theorem delta_step {x : FVec Ideal S32x128 .f32} {V : FVec Ideal S8x128 .f32} {n : ℕ} {hi s0 s1 s2 s3 m1 m2 m3 c1 c2 hb} (hn : n < 128)
    (hx : ∀ (r : Fin 32) (l : Fin 128), x (ix2 r l) = Ideal.ofBits .fp8e5m2 (B.dob ⟨n, hn⟩ r l) * B.o ⟨n, hn⟩ r l)
    (hV : DeltaOK B n V) :
    DeltaOK B (n + 1) (select (cmpi .eq (iota .tc S8x128 32 [1] hi) (broadcast S8x128 (BitVec.ofNat 32 n)))
      (broadcastTo S8x128 (shapeCast S8x1 (shapeCast S8x1 (multiReduction .add [1] S8
        (addf (addf (extractStridedSlice S8x128 ![0, 0] x s0) (extractStridedSlice S8x128 ![8, 0] x s1))
          (addf (extractStridedSlice S8x128 ![16, 0] x s2) (extractStridedSlice S8x128 ![24, 0] x s3))) 0#32 m1 m2 m3) c1) c2) hb) V) := by
  intro h i hi'
  pointwise []
  by_cases hc : i.val = n
  · have : IntOp.cmpi CmpIPredicate.eq (BitVec.ofNat 32 i.val) (BitVec.ofNat 32 n) = 1#1 := by simp [IntOp.cmpi, hc]
    rw [this]
    simp only [hx]
    obtain rfl : i = ⟨n, hn⟩ := Fin.ext hc
    refine (show Scalar.select 1#1 _ _ = _ from by simp only [Scalar.select]; exact if_pos rfl).trans ?_
    unfold Blk.DELTA
    refine Finset.sum_congr rfl fun l _ => ?_
    simp only [Blk.dterm]
    have e : ∀ (c : ℕ) (hc : c < 4) (r r' : Fin 32), r = r' → (Ideal.ofBits .fp8e5m2 (B.dob ⟨n, hn⟩ r l) * B.o ⟨n, hn⟩ r l : EReal)
        = Ideal.ofBits .fp8e5m2 (B.dob ⟨n, hn⟩ r' l) * B.o ⟨n, hn⟩ r' l := fun c hc r r' h => by rw [h]
    exact congrArg₂ (· + ·) (congrArg₂ (· + ·) (e 0 (by decide) _ _ (Fin.ext (by simp))) (e 1 (by decide) _ _ (Fin.ext (by simp))))
      (congrArg₂ (· + ·) (e 2 (by decide) _ _ (Fin.ext (by simp))) (e 3 (by decide) _ _ (Fin.ext (by simp))))
  · have hb : (BitVec.ofNat 32 i.val == BitVec.ofNat 32 n) = false := by
      rw [beq_eq_false_iff_ne]
      intro e
      have := congrArg BitVec.toNat e
      simp at this
      omega
    have : IntOp.cmpi CmpIPredicate.eq (BitVec.ofNat 32 i.val) (BitVec.ofNat 32 n) = 0#1 := by simp only [IntOp.cmpi, hb]; rfl
    rw [this]
    exact hV h i (by omega)

/-- A cast to the same shape. -/
theorem delta_cast {V : FVec Ideal S8x128 .f32} {h} {n : ℕ} (hV : DeltaOK B n V) : DeltaOK B n (shapeCast S8x128 V h) := by
  intro a i hi
  pointwise []
  exact hV a i hi

/-- The row sums are stored whole. -/
theorem delta_canon {V : S8x128.Idx → EReal} {inb} (hV : DeltaOK B 128 V) (h : Fin 8) (i : Fin 128) :
    View.canon (Val := Elt Ideal) [(⟨Rect.unit (s := S8x128) ![0, 0] S8x128.size inb, V⟩ : View.Piece (Elt Ideal) S8x128 .f32)] (ix2 h i) = B.DELTA h i := by
  have e : (ix2 h i : S8x128.Idx) = (Rect.unit (s := S8x128) ![0, 0] S8x128.size inb).emb (ix2 h i) := by
    funext z; match z with
    | ⟨0, _⟩ => exact Fin.ext (by simp)
    | ⟨1, _⟩ => exact Fin.ext (by simp)
  rw [e, View.canon_cons_emb]
  exact hV h i i.isLt

/-- One row of the row sums, read back. -/
theorem ldelta {m : Memref sig .tc .vmem S8x128 .f32} {L : List (View.Piece (Elt Ideal) S8x128 .f32)} {h : ℕ} {inb} (hh : h < 8)
    (hL : ∀ (h : Fin 8) (i : Fin 128), View.canon (Val := Elt Ideal) L (ix2 h i) = B.DELTA h i) (i : Fin 128) :
    m.view.readCov L (Rect.unit (s := S8x128) ![h, 0] S1x128.size inb).toLoadRect (ix2 0 i) = B.DELTA ⟨h, hh⟩ i :=
  lc2 (m := m) (L := L) (o := h) (inb := inb) (f := fun h i => B.DELTA h i) (by omega) (by omega) hL (0 : Fin 1) i

/-- The keys' scales of a chunk. -/
theorem lcsb {m : Memref sig .tc .vmem S384x128 .f32} {hm : m.IsWhole} {x : S384x128.Idx → Elt Ideal .f32} {r : ℕ} {inb} (hr : r + 32 ≤ 384)
    (hx : ∀ (j : Fin 384) (l : Fin 128), x (ix2 j l) = B.cs j) (j : Fin 32) (l : Fin 128) :
    View.readAt (Elt Ideal) m.view (Rect.unit (s := S384x128) ![r, 0] S32x128.size inb).toLoadRect (hm.unread x) (ix2 j l) = B.cs ⟨r + j.val, by omega⟩ :=
  ld2 (m := m) (hm := hm) (x := x) (o := r) (inb := inb) (f := fun j _ => B.cs j) hr (by omega) hx j l

/-- The same where they are stored by this point. -/
theorem lcsb' {m : Memref sig .tc .vmem S384x128 .f32} {L : List (View.Piece (Elt Ideal) S384x128 .f32)} {r : ℕ} {inb} (hr : r + 32 ≤ 384)
    (hx : ∀ (j : Fin 384) (l : Fin 128), View.canon (Val := Elt Ideal) L (ix2 j l) = B.cs j) (j : Fin 32) (l : Fin 128) :
    m.view.readCov L (Rect.unit (s := S384x128) ![r, 0] S32x128.size inb).toLoadRect (ix2 j l) = B.cs ⟨r + j.val, by omega⟩ :=
  lc2 (m := m) (L := L) (o := r) (inb := inb) (f := fun j _ => B.cs j) hr (by omega) hx j l

/-- The rope keys of the point. -/
theorem lkr {n : ℕ} {m : Memref sig .tc .vmem S384x64 .bf16} {hm : m.IsWhole} {x : S384x64.Idx → Elt Ideal .bf16} {inb} (hn : n ≤ 384)
    (hx : ∀ (j : Fin 384) (d : Fin 64), x (ix2 j d) = B.kr j d) (j : Fin n) (d : Fin 64) :
    View.readAt (Elt Ideal) m.view (Rect.unit (s := S384x64) ![0, 0] (⟨2, ![n, 64]⟩ : Shape).size inb).toLoadRect (hm.unread x) (ix2 j d) = B.kr ⟨j.val, by omega⟩ d := by
  refine (ld2 (m := m) (hm := hm) (x := x) (o := 0) (inb := inb) (f := fun j d => B.kr j d) (by omega) (by omega) hx j d).trans ?_
  congr 1
  exact Fin.ext (by simp)

theorem lkr' {n : ℕ} {m : Memref sig .tc .vmem S384x64 .bf16} {L : List (View.Piece (Elt Ideal) S384x64 .bf16)} {inb} (hn : n ≤ 384)
    (hx : ∀ (j : Fin 384) (d : Fin 64), View.canon (Val := Elt Ideal) L (ix2 j d) = B.kr j d) (j : Fin n) (d : Fin 64) :
    m.view.readCov L (Rect.unit (s := S384x64) ![0, 0] (⟨2, ![n, 64]⟩ : Shape).size inb).toLoadRect (ix2 j d) = B.kr ⟨j.val, by omega⟩ d := by
  refine (lc2 (m := m) (L := L) (o := 0) (inb := inb) (f := fun j d => B.kr j d) (by omega) (by omega) hx j d).trans ?_
  congr 1
  exact Fin.ext (by simp)

/-- The keys of the point, feature by feature. -/
theorem lkt {n : ℕ} {m : Memref sig .tc .vmem S576x384 .bf16} {hm : m.IsWhole} {x : S576x384.Idx → Elt Ideal .bf16} {inb} (hn : n ≤ 384)
    (hx : ∀ (r : Fin 576) (j : Fin 384), x (ix2 r j) = B.kt r j) (r : Fin 576) (j : Fin n) :
    View.readAt (Elt Ideal) m.view (Rect.unit (s := S576x384) ![0, 0] (⟨2, ![576, n]⟩ : Shape).size inb).toLoadRect (hm.unread x) (ix2 r j) = B.kt r ⟨j.val, by omega⟩ := by
  refine (ld2 (m := m) (hm := hm) (x := x) (o := 0) (inb := inb) (f := fun r j => B.kt r j) (by omega) hn hx r j).trans ?_
  congr 1
  exact Fin.ext (by simp)

theorem lkt' {n : ℕ} {m : Memref sig .tc .vmem S576x384 .bf16} {L : List (View.Piece (Elt Ideal) S576x384 .bf16)} {inb} (hn : n ≤ 384)
    (hx : ∀ (r : Fin 576) (j : Fin 384), View.canon (Val := Elt Ideal) L (ix2 r j) = B.kt r j) (r : Fin 576) (j : Fin n) :
    m.view.readCov L (Rect.unit (s := S576x384) ![0, 0] (⟨2, ![576, n]⟩ : Shape).size inb).toLoadRect (ix2 r j) = B.kt r ⟨j.val, by omega⟩ := by
  refine (lc2 (m := m) (L := L) (o := 0) (inb := inb) (f := fun r j => B.kt r j) (by omega) hn hx r j).trans ?_
  congr 1
  exact Fin.ext (by simp)

/-! ## The block of dq -/

/-- After `n` heads: dq's block holds their sums over `k` keys. -/
def HeadsOK (B : Blk) (k : ℕ) (hk : k ≤ 384) (n : ℕ) (L : List (View.Piece (Elt Ideal) S1x8x576x128 .bf16)) : Prop :=
  ∀ (h : Fin 8) (r : Fin 576) (i : Fin 128), h.val < n → View.canon (Val := Elt Ideal) L (ix4 0 h r i) = B.DQ k hk h r i

theorem heads_zero {k : ℕ} {hk : k ≤ 384} {L} : HeadsOK B k hk 0 L := fun h r i hh => absurd hh (by omega)

theorem heads_step {k : ℕ} {hk : k ≤ 384} {n : ℕ} {inb} {w : S1x1x576x128.Idx → EReal} {L : List (View.Piece (Elt Ideal) S1x8x576x128 .bf16)} (hn : n < 8)
    (hL : HeadsOK B k hk n L) (hw : ∀ (r : Fin 576) (i : Fin 128), w (ix4 0 0 r i) = B.DQ k hk ⟨n, hn⟩ r i) :
    HeadsOK B k hk (n + 1) (⟨Rect.unit (s := S1x8x576x128) ![0, n, 0, 0] S1x1x576x128.size inb, w⟩ :: L) := by
  intro h r i hh
  by_cases hc : h.val = n
  · have e : (ix4 0 h r i : S1x8x576x128.Idx) = (Rect.unit (s := S1x8x576x128) ![0, n, 0, 0] S1x1x576x128.size inb).emb (ix4 0 0 r i) := by
      funext z; match z with
      | ⟨0, _⟩ => rfl
      | ⟨1, _⟩ => exact Fin.ext (by simp [hc])
      | ⟨2, _⟩ => exact Fin.ext (by simp)
      | ⟨3, _⟩ => exact Fin.ext (by simp)
    rw [e, View.canon_cons_emb, hw]
    congr 1
    exact Fin.ext hc.symm
  · rw [View.canon_cons_of_not_mem]
    · exact hL h r i (by omega)
    · intro hm
      have := Rect.mem_set_unit.mp (show _ ∈ (Rect.unit (s := S1x8x576x128) ![0, n, 0, 0] S1x1x576x128.size inb).set from hm) (1 : Fin 4)
      simp at this
      omega

/-- The two heads of pair `hp`. -/
theorem pair_step {k : ℕ} {hk : k ≤ 384} {a b : ℕ} {i1 i2 h1 h2 h3 g1 g2 g3} {x : FVec Ideal S576x256 .f32} {L : List (View.Piece (Elt Ideal) S1x8x576x128 .bf16)}
    (ha : a = 2 * hp.val) (hb : b = 2 * hp.val + 1) (hx : ∀ (r : Fin 576) (l : Fin 256), x (ix2 r l) = B.DQ k hk (hd hp l) r (ln l))
    (hL : HeadsOK B k hk (2 * hp.val) L) :
    HeadsOK B k hk (2 * hp.val + 2)
      (⟨Rect.unit (s := S1x8x576x128) ![0, b, 0, 0] S1x1x576x128.size i2, shapeCast S1x1x576x128 (truncf .bf16 (extractStridedSlice S576x128 ![0, 128] x g1) g2) g3⟩
        :: ⟨Rect.unit (s := S1x8x576x128) ![0, a, 0, 0] S1x1x576x128.size i1, shapeCast S1x1x576x128 (truncf .bf16 (extractStridedSlice S576x128 ![0, 0] x h1) h2) h3⟩ :: L) := by
  subst ha hb
  exact heads_step (by omega) (heads_step (by omega) hL (dqL hx)) (dqR hx)

end Cert.KernelIdeal.Val
-- ==== Proof.Val.Acc.lean ====
/- Accumulated outputs: a corner block of an array is read, added to and written back, pair after pair. -/
module

public import proofs.«01_k».proof.Proof.Val.Loads
public import Idealize.ShloMosaic.Lib.WritesUnit

@[expose] public section

set_option maxRecDepth 16384

noncomputable section

namespace Cert.KernelIdeal.Val

open Cert.KernelIdeal.Gen
open Idealize.ShloMosaic Idealize.ShloMosaic.TcCoe

variable {n k a b : ℕ}

/-- What the writes `L` leave: `A` on the corner block of `a` by `b`, `X` elsewhere — read from the buffer, and, on the
corner, from the writes alone. -/
def Acc (v : View sig .tc .vmem (⟨3, ![1, n, k]⟩ : Shape) .f32) (f : v.ty.Contents (Elt Ideal)) (a b : ℕ) (A X : Fin n → Fin k → EReal)
    (L : List (View.Piece (Elt Ideal) (⟨3, ![1, n, k]⟩ : Shape) .f32)) : Prop :=
  ∀ (j : Fin n) (r : Fin k), v.read (Elt Ideal) (v.writes (Elt Ideal) f L) (ix3 (0 : Fin 1) j r) = if j.val < a ∧ r.val < b then A j r else X j r

/-- The same of the writes alone. -/
def Can (a b : ℕ) (A : Fin n → Fin k → EReal) (L : List (View.Piece (Elt Ideal) (⟨3, ![1, n, k]⟩ : Shape) .f32)) : Prop :=
  ∀ (j : Fin n) (r : Fin k), j.val < a → r.val < b → View.canon (Val := Elt Ideal) L (ix3 (0 : Fin 1) j r) = A j r

/-- A load of the corner block from the launch contents. -/
theorem ld3 {m : Memref sig .tc .vmem (⟨3, ![1, n, k]⟩ : Shape) .f32} {hm : m.IsWhole} {x : (⟨3, ![1, n, k]⟩ : Shape).Idx → EReal} {inb}
    {X : Fin n → Fin k → EReal} (ha : a ≤ n) (hb : b ≤ k) (hx : ∀ j r, x (ix3 (0 : Fin 1) j r) = X j r) (j : Fin a) (r : Fin b) :
    View.readAt (Elt Ideal) m.view (Rect.unit (s := ⟨3, ![1, n, k]⟩) ![0, 0, 0] (⟨3, ![1, a, b]⟩ : Shape).size inb).toLoadRect (hm.unread x) (ix3 (0 : Fin 1) j r)
      = X ⟨j.val, by omega⟩ ⟨r.val, by omega⟩ := by
  refine (rd (m := m) (hm := hm) (x := x) (Rect.unit (s := ⟨3, ![1, n, k]⟩) ![0, 0, 0] (⟨3, ![1, a, b]⟩ : Shape).size inb) (ix3 (0 : Fin 1) j r)).trans ?_
  rw [← hx]
  refine congrArg x ((emb3 (0 : Fin 1) j r (by simp) (by omega) (by omega)).trans ?_)
  funext z; match z with
  | ⟨0, _⟩ => exact Fin.ext (by simp)
  | ⟨1, _⟩ => exact Fin.ext (by simp)
  | ⟨2, _⟩ => exact Fin.ext (by simp)

/-- A load of the corner block from the writes. -/
theorem lc3 {m : Memref sig .tc .vmem (⟨3, ![1, n, k]⟩ : Shape) .f32} {L : List (View.Piece (Elt Ideal) (⟨3, ![1, n, k]⟩ : Shape) .f32)} {inb}
    {A : Fin n → Fin k → EReal} (ha : a ≤ n) (hb : b ≤ k) (hL : Can a b A L) (j : Fin a) (r : Fin b) :
    m.view.readCov L (Rect.unit (s := ⟨3, ![1, n, k]⟩) ![0, 0, 0] (⟨3, ![1, a, b]⟩ : Shape).size inb).toLoadRect (ix3 (0 : Fin 1) j r)
      = A ⟨j.val, by omega⟩ ⟨r.val, by omega⟩ := by
  refine (rc (m := m) (L := L) (Rect.unit (s := ⟨3, ![1, n, k]⟩) ![0, 0, 0] (⟨3, ![1, a, b]⟩ : Shape).size inb) (ix3 (0 : Fin 1) j r)).trans ?_
  rw [← hL ⟨j.val, by omega⟩ ⟨r.val, by omega⟩ j.isLt r.isLt]
  refine congrArg _ ((emb3 (0 : Fin 1) j r (by simp) (by omega) (by omega)).trans ?_)
  funext z; match z with
  | ⟨0, _⟩ => exact Fin.ext (by simp)
  | ⟨1, _⟩ => exact Fin.ext (by simp)
  | ⟨2, _⟩ => exact Fin.ext (by simp)

/-- Nothing written. -/
theorem acc_nil {m : Memref sig .tc .vmem (⟨3, ![1, n, k]⟩ : Shape) .f32} {hm : m.IsWhole} {x : (⟨3, ![1, n, k]⟩ : Shape).Idx → EReal}
    {X : Fin n → Fin k → EReal} (hx : ∀ j r, x (ix3 (0 : Fin 1) j r) = X j r) : Acc m.view (hm.unread x) a b X X [] := by
  intro j r
  rw [ite_self, ← hx]
  exact congrFun (Memref.IsWhole.read_unread (Val := Elt Ideal) hm x) _

/-- One more write of the corner block, which may use what the writes before left there. -/
theorem acc_step {v : View sig .tc .vmem (⟨3, ![1, n, k]⟩ : Shape) .f32} {f : v.ty.Contents (Elt Ideal)} {A A' X : Fin n → Fin k → EReal}
    {inb} {w : (⟨3, ![1, a, b]⟩ : Shape).Idx → EReal} {L : List (View.Piece (Elt Ideal) (⟨3, ![1, n, k]⟩ : Shape) .f32)} (ha : a ≤ n) (hb : b ≤ k)
    (hL : Acc v f a b A X L) (hw : ∀ (j : Fin a) (r : Fin b), w (ix3 (0 : Fin 1) j r) = A' ⟨j.val, by omega⟩ ⟨r.val, by omega⟩) :
    Acc v f a b A' X (⟨Rect.unit (s := ⟨3, ![1, n, k]⟩) ![0, 0, 0] (⟨3, ![1, a, b]⟩ : Shape).size inb, w⟩ :: L) := by
  intro j r
  by_cases h : j.val < a ∧ r.val < b
  · rw [if_pos h]
    refine (View.read_writes_cons_unit_of_mem v f inb w L (ix3 (0 : Fin 1) j r) (ix3 (0 : Fin 1) ⟨j.val, h.1⟩ ⟨r.val, h.2⟩) rfl ?_).trans (hw ⟨j.val, h.1⟩ ⟨r.val, h.2⟩)
    intro z; match z with
    | ⟨0, _⟩ => simp
    | ⟨1, _⟩ => simp
    | ⟨2, _⟩ => simp
  · rw [if_neg h]
    have e := hL j r
    rw [if_neg h] at e
    rw [← e]
    by_cases h1 : j.val < a
    · exact View.read_writes_cons_unit_of_not_mem v f inb w L (ix3 (0 : Fin 1) j r) rfl (2 : Fin 3) (Or.inr (by simp; omega))
    · exact View.read_writes_cons_unit_of_not_mem v f inb w L (ix3 (0 : Fin 1) j r) rfl (1 : Fin 3) (Or.inr (by simp; omega))

/-- The corner block just written. -/
theorem can_step {A : Fin n → Fin k → EReal}
    {inb} {w : (⟨3, ![1, a, b]⟩ : Shape).Idx → EReal} {L : List (View.Piece (Elt Ideal) (⟨3, ![1, n, k]⟩ : Shape) .f32)} (ha : a ≤ n) (hb : b ≤ k)
    (hw : ∀ (j : Fin a) (r : Fin b), w (ix3 (0 : Fin 1) j r) = A ⟨j.val, by omega⟩ ⟨r.val, by omega⟩) :
    Can a b A (⟨Rect.unit (s := ⟨3, ![1, n, k]⟩) ![0, 0, 0] (⟨3, ![1, a, b]⟩ : Shape).size inb, w⟩ :: L) := by
  intro j r hj hr
  have e : (ix3 (0 : Fin 1) j r : (⟨3, ![1, n, k]⟩ : Shape).Idx) = (Rect.unit (s := ⟨3, ![1, n, k]⟩) ![0, 0, 0] (⟨3, ![1, a, b]⟩ : Shape).size inb).emb (ix3 (0 : Fin 1) ⟨j.val, hj⟩ ⟨r.val, hr⟩) := by
    refine Eq.symm ((emb3 (0 : Fin 1) (⟨j.val, hj⟩ : Fin a) (⟨r.val, hr⟩ : Fin b) (by simp) (by simp) (by simp)).trans ?_)
    funext z; match z with
    | ⟨0, _⟩ => exact Fin.ext (by simp)
    | ⟨1, _⟩ => exact Fin.ext (by simp)
    | ⟨2, _⟩ => exact Fin.ext (by simp)
  rw [e, View.canon_cons_emb, hw]

/-- One write of the corner block, for both readings. -/
theorem both_step {v : View sig .tc .vmem (⟨3, ![1, n, k]⟩ : Shape) .f32} {f : v.ty.Contents (Elt Ideal)} {A A' X : Fin n → Fin k → EReal}
    {inb} {w : (⟨3, ![1, a, b]⟩ : Shape).Idx → EReal} {L : List (View.Piece (Elt Ideal) (⟨3, ![1, n, k]⟩ : Shape) .f32)} (ha : a ≤ n) (hb : b ≤ k)
    (hL : Acc v f a b A X L ∧ Can a b A L)
    (hw : Can a b A L → ∀ (j : Fin a) (r : Fin b), w (ix3 (0 : Fin 1) j r) = A' ⟨j.val, by omega⟩ ⟨r.val, by omega⟩) :
    Acc v f a b A' X (⟨Rect.unit (s := ⟨3, ![1, n, k]⟩) ![0, 0, 0] (⟨3, ![1, a, b]⟩ : Shape).size inb, w⟩ :: L)
      ∧ Can a b A' (⟨Rect.unit (s := ⟨3, ![1, n, k]⟩) ![0, 0, 0] (⟨3, ![1, a, b]⟩ : Shape).size inb, w⟩ :: L) :=
  ⟨acc_step ha hb hL.1 (hw hL.2), can_step ha hb (hw hL.2)⟩

/-- The first write of the corner block. -/
theorem both_first {v : View sig .tc .vmem (⟨3, ![1, n, k]⟩ : Shape) .f32} {f : v.ty.Contents (Elt Ideal)} {A A' X : Fin n → Fin k → EReal}
    {inb} {w : (⟨3, ![1, a, b]⟩ : Shape).Idx → EReal} {L : List (View.Piece (Elt Ideal) (⟨3, ![1, n, k]⟩ : Shape) .f32)} (ha : a ≤ n) (hb : b ≤ k)
    (hL : Acc v f a b A X L)
    (hw : ∀ (j : Fin a) (r : Fin b), w (ix3 (0 : Fin 1) j r) = A' ⟨j.val, by omega⟩ ⟨r.val, by omega⟩) :
    Acc v f a b A' X (⟨Rect.unit (s := ⟨3, ![1, n, k]⟩) ![0, 0, 0] (⟨3, ![1, a, b]⟩ : Shape).size inb, w⟩ :: L)
      ∧ Can a b A' (⟨Rect.unit (s := ⟨3, ![1, n, k]⟩) ![0, 0, 0] (⟨3, ![1, a, b]⟩ : Shape).size inb, w⟩ :: L) :=
  ⟨acc_step ha hb hL hw, can_step ha hb hw⟩

/-- The array filled with one value. -/
theorem acc_fill {v : View sig .tc .vmem (⟨3, ![1, n, k]⟩ : Shape) .f32} {f : v.ty.Contents (Elt Ideal)} {X : Fin n → Fin k → EReal}
    {inb} {w : (⟨3, ![1, n, k]⟩ : Shape).Idx → EReal} (hw : ∀ j r, w (ix3 (0 : Fin 1) j r) = X j r) :
    Acc v f a b X X [⟨Rect.unit (s := ⟨3, ![1, n, k]⟩) ![0, 0, 0] (⟨3, ![1, n, k]⟩ : Shape).size inb, w⟩] := by
  intro j r
  rw [ite_self, ← hw]
  refine View.read_writes_cons_unit_of_mem v f inb w [] (ix3 (0 : Fin 1) j r) (ix3 (0 : Fin 1) j r) rfl ?_
  intro z; match z with
  | ⟨0, _⟩ => simp
  | ⟨1, _⟩ => simp
  | ⟨2, _⟩ => simp

theorem can_fill {X : Fin n → Fin k → EReal} {inb} {w : (⟨3, ![1, n, k]⟩ : Shape).Idx → EReal} (hw : ∀ j r, w (ix3 (0 : Fin 1) j r) = X j r) :
    Can a b X [⟨Rect.unit (s := ⟨3, ![1, n, k]⟩) ![0, 0, 0] (⟨3, ![1, n, k]⟩ : Shape).size inb, w⟩] :=
  fun j r _ _ => can_step (le_refl n) (le_refl k) hw j r j.isLt r.isLt

end Cert.KernelIdeal.Val

end
-- ==== Proof.Val.Prep.lean ====
module

public import proofs.«01_k».proof.Proof.Val.Acc

/-! # What the first point of a batch prepares

The keys feature by feature, the rope keys and the keys' scales: each is stored tile by tile, and read back as one array. -/

@[expose] public section

set_option maxRecDepth 16384

noncomputable section

namespace Cert.KernelIdeal.Val

open Cert.KernelIdeal.Gen
open Idealize.ShloMosaic Idealize.ShloMosaic.TcCoe

/-- The rectangle stored so far (`P`) holds `f`. -/
def Til {M N : ℕ} {e : EltTy} (f : Fin M → Fin N → Elt Ideal e) (P : ℕ → ℕ → Prop) (L : List (View.Piece (Elt Ideal) (⟨2, ![M, N]⟩ : Shape) e)) : Prop :=
  ∀ (r : Fin M) (j : Fin N), P r.val j.val → View.canon (Val := Elt Ideal) L (ix2 r j) = f r j

theorem til_zero {M N : ℕ} {e : EltTy} {f : Fin M → Fin N → Elt Ideal e} {L} : Til (e := e) f (fun _ _ => False) L := fun _ _ h => h.elim

/-- One more tile. -/
theorem til_step {M N a b n p : ℕ} {e : EltTy} {f : Fin M → Fin N → Elt Ideal e} {P : ℕ → ℕ → Prop}
    {inb : ∀ z, (![a, b] : Fin 2 → ℕ) z + (⟨2, ![n, p]⟩ : Shape).size z ≤ (⟨2, ![M, N]⟩ : Shape).size z}
    {w : (⟨2, ![n, p]⟩ : Shape).Idx → Elt Ideal e} {L : List (View.Piece (Elt Ideal) (⟨2, ![M, N]⟩ : Shape) e)}
    (ha : a + n ≤ M) (hb : b + p ≤ N)
    (hw : ∀ (u : Fin n) (v : Fin p), w (ix2 u v) = f ⟨a + u.val, by omega⟩ ⟨b + v.val, by omega⟩) (hL : Til f P L) :
    Til f (fun r j => (a ≤ r ∧ r < a + n ∧ b ≤ j ∧ j < b + p) ∨ P r j) (⟨Rect.unit ![a, b] (⟨2, ![n, p]⟩ : Shape).size inb, w⟩ :: L) := by
  intro r j h
  by_cases hc : a ≤ r.val ∧ r.val < a + n ∧ b ≤ j.val ∧ j.val < b + p
  · have e : (ix2 r j : (⟨2, ![M, N]⟩ : Shape).Idx)
        = (Rect.unit (s := ⟨2, ![M, N]⟩) ![a, b] (⟨2, ![n, p]⟩ : Shape).size inb).emb (ix2 ⟨r.val - a, by omega⟩ ⟨j.val - b, by omega⟩) := by
      funext z
      match z with
      | ⟨0, _⟩ => exact Fin.ext (by simp [Rect.emb, Rect.unit]; omega)
      | ⟨1, _⟩ => exact Fin.ext (by simp [Rect.emb, Rect.unit]; omega)
    rw [e, View.canon_cons_emb, hw]
    congr 1 <;> exact Fin.ext (by simp; omega)
  · rw [View.canon_cons_of_not_mem]
    · exact hL r j (h.resolve_left hc)
    · intro hm
      have hm' := Rect.mem_set_unit.mp (show _ ∈ (Rect.unit (s := ⟨2, ![M, N]⟩) ![a, b] (⟨2, ![n, p]⟩ : Shape).size inb).set from hm)
      have h0 := hm' (0 : Fin 2)
      have h1 := hm' (1 : Fin 2)
      simp at h0 h1
      omega

/-- All of it is stored. -/
theorem til_all {M N : ℕ} {e : EltTy} {f : Fin M → Fin N → Elt Ideal e} {P : ℕ → ℕ → Prop} {L} (h : Til (e := e) f P L)
    (hP : ∀ r j, r < M → j < N → P r j) (r : Fin M) (j : Fin N) : View.canon (Val := Elt Ideal) L (ix2 r j) = f r j :=
  h r j (hP _ _ r.isLt j.isLt)

/-- A batch's row of scales, from lane `u`. -/
theorem scale_ok {m : Memref sig .tc .vmem S2x384 .f32} {hm : m.IsWhole} {x : S2x384.Idx → Elt Ideal .f32} {g : BitVec 32} {u : ℕ} {i1 i2 h}
    {CS : Fin 384 → EReal} (hu : u + 128 ≤ 384)
    (hx : ∀ j : Fin 384, (if g = 0#32 then x (ix2 0 j) else x (ix2 1 j)) = CS j) (l : Fin 128) :
    extractStridedSlice S1x128 ![0, u] (Scalar.select (Scalar.cmpi .eq g 0#32)
        (View.readAt (Elt Ideal) m.view (Rect.unit (s := S2x384) ![0, 0] S1x384.size i1).toLoadRect (hm.unread x))
        (View.readAt (Elt Ideal) m.view (Rect.unit (s := S2x384) ![1, 0] S1x384.size i2).toLoadRect (hm.unread x)) : FVec Ideal S1x384 .f32) h (ix2 0 l)
      = CS ⟨u + l.val, by omega⟩ := by
  rw [← hx]
  have e0 : ∀ (v : FVec Ideal S1x384 .f32), extractStridedSlice S1x128 ![0, u] v h (ix2 0 l) = v (ix2 0 ⟨u + l.val, by omega⟩) := fun v =>
    congrArg v (funext fun a => by
      match a with
      | ⟨0, _⟩ => exact Fin.ext (by simp)
      | ⟨1, _⟩ => exact Fin.ext (by simp))
  rw [e0]
  by_cases hg : g = 0#32
  · rw [if_pos hg, hg]
    refine (ld2 (m := m) (hm := hm) (x := x) (o := 0) (inb := i1) (f := fun a b => x (ix2 a b)) (by omega) (by omega) (fun _ _ => rfl) 0 _).trans ?_
    rfl
  · rw [if_neg hg]
    have hb : (g == 0#32) = false := by simpa using hg
    have : Scalar.cmpi .eq g 0#32 = 0#1 := by simp only [Scalar.cmpi, IntOp.cmpi, hb]; rfl
    rw [this]
    refine (ld2 (m := m) (hm := hm) (x := x) (o := 1) (inb := i2) (f := fun a b => x (ix2 a b)) (by omega) (by omega) (fun _ _ => rfl) 0 _).trans ?_
    rfl

/-- A stored tile of scales, each in every lane. -/
theorem csb_piece {v : FVec Ideal S1x128 .f32} {CS : Fin 384 → EReal} {u : ℕ} {h1 h2 h3 h4} (hu : u + 128 ≤ 384)
    (hv : ∀ l : Fin 128, v (ix2 0 l) = CS ⟨u + l.val, by omega⟩) (j l : Fin 128) :
    shapeCast S128x128 (transpose S128x128 [1, 0] (broadcastTo S128x128 (shapeCast S1x128 v h1) h2) h3) h4 (ix2 j l) = CS ⟨u + j.val, by omega⟩ := by
  pointwise []
  exact hv j

/-- A tile of a loaded block. -/
theorem ld3o {e : EltTy} {n k c d o o' : ℕ} {m : Memref sig .tc .vmem (⟨3, ![1, n, k]⟩ : Shape) e} {hm : m.IsWhole} {x : (⟨3, ![1, n, k]⟩ : Shape).Idx → Elt Ideal e} {inb}
    {X : Fin n → Fin k → Elt Ideal e} (ha : o + c ≤ n) (hb : o' + d ≤ k) (hx : ∀ j r, x (ix3 (0 : Fin 1) j r) = X j r) (j : Fin c) (r : Fin d) :
    View.readAt (Elt Ideal) m.view (Rect.unit (s := ⟨3, ![1, n, k]⟩) ![0, o, o'] (⟨3, ![1, c, d]⟩ : Shape).size inb).toLoadRect (hm.unread x) (ix3 (0 : Fin 1) j r)
      = X ⟨o + j.val, by omega⟩ ⟨o' + r.val, by omega⟩ := by
  refine (rd (m := m) (hm := hm) (x := x) (Rect.unit (s := ⟨3, ![1, n, k]⟩) ![0, o, o'] (⟨3, ![1, c, d]⟩ : Shape).size inb) (ix3 (0 : Fin 1) j r)).trans ?_
  rw [← hx]
  refine congrArg x ?_
  funext z; match z with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

/-- A stored tile of rope keys. -/
theorem kr_piece {y : FVec Ideal S1x64x128 .bf16} {KR : Fin 384 → Fin 64 → EReal} {u : ℕ} {h1 h2 h3 h4 h5} (hu : u + 128 ≤ 384)
    (hy : ∀ (d : Fin 64) (j : Fin 128), y (ix3 0 d j) = KR ⟨u + j.val, by omega⟩ ⟨0 + d.val, by omega⟩) (j : Fin 128) (d : Fin 64) :
    (shapeCast S128x64 (truncf .bf16 (transpose S128x64 [1, 0] (extf .f32 (shapeCast S64x128 y h1 : FVec Ideal S64x128 .bf16) h2 : FVec Ideal S64x128 .f32) h3 : FVec Ideal S128x64 .f32) h4 : FVec Ideal S128x64 .bf16) h5 : FVec Ideal S128x64 .bf16) (ix2 j d)
      = KR ⟨u + j.val, by omega⟩ ⟨0 + d.val, by omega⟩ := by
  pointwise []
  refine (hy d j).trans ?_
  congr 1
  exact Fin.ext (by simp)

/-- A stored tile of keys, feature by feature. -/
theorem kt_piece {y : FVec Ideal S1x128x128 .fp8e4m3} {v : FVec Ideal S1x128 .f32}
    {C : Fin 384 → Fin 512 → EReal} {CS : Fin 384 → EReal} {u a : ℕ} {h1 h2 h3 h4 h5 h6 h7 h8} (hu : u + 128 ≤ 384) (ha : a + 128 ≤ 512)
    (hy : ∀ (j r : Fin 128), y (ix3 0 j r) = C ⟨u + j.val, by omega⟩ ⟨a + r.val, by omega⟩) (hv : ∀ l : Fin 128, v (ix2 0 l) = CS ⟨u + l.val, by omega⟩) (r j : Fin 128) :
    (shapeCast S128x128 (truncf .bf16 (mulf (transpose S128x128 [1, 0] (extf .f32 (shapeCast S128x128 y h1 : FVec Ideal S128x128 .fp8e4m3) h2 : FVec Ideal S128x128 .f32) h3 : FVec Ideal S128x128 .f32)
      (broadcastTo S128x128 (extf .f32 (truncf .bf16 v h4 : FVec Ideal S1x128 .bf16) h5 : FVec Ideal S1x128 .f32) h6 : FVec Ideal S128x128 .f32) : FVec Ideal S128x128 .f32) h7 : FVec Ideal S128x128 .bf16) h8 : FVec Ideal S128x128 .bf16) (ix2 r j)
      = C ⟨u + j.val, by omega⟩ ⟨a + r.val, by omega⟩ * CS ⟨u + j.val, by omega⟩ := by
  pointwise []
  rw [hv]
  exact congrArg (· * _) (hy j r)

/-- The keys as the kernel keeps them: the scaled code below feature 512, the rope key from there. -/
def ktf (C : Fin 384 → Fin 512 → EReal) (CS : Fin 384 → EReal) (KR : Fin 384 → Fin 64 → EReal) (r : Fin 576) (j : Fin 384) : EReal :=
  if h : r.val < 512 then C j ⟨r.val, h⟩ * CS j else KR j ⟨r.val - 512, by omega⟩

theorem kt_c {C CS KR} {u a : ℕ} {w : EReal} {r j : Fin 128} (hu : u + 128 ≤ 384) (ha : a + 128 ≤ 512)
    (h : w = C ⟨u + j.val, by omega⟩ ⟨a + r.val, by omega⟩ * CS ⟨u + j.val, by omega⟩) :
    w = ktf C CS KR ⟨a + r.val, by omega⟩ ⟨u + j.val, by omega⟩ := by
  rw [h, ktf, dif_pos (by simp; omega)]

/-- The rope rows of the keys. -/
theorem kt_r {y : FVec Ideal S1x64x384 .bf16} {C CS} {KR : Fin 384 → Fin 64 → EReal}
    {h1 h2} (hy : ∀ (d : Fin 64) (j : Fin 384), y (ix3 0 d j) = KR ⟨0 + j.val, by omega⟩ ⟨0 + d.val, by omega⟩) (d : Fin 64) (j : Fin 384) :
    (shapeCast S64x384 (shapeCast S64x384 y h1 : FVec Ideal S64x384 .bf16) h2 : FVec Ideal S64x384 .bf16) (ix2 d j)
      = ktf C CS KR ⟨512 + d.val, by omega⟩ ⟨0 + j.val, by omega⟩ := by
  rw [ktf, dif_neg (by simp)]
  have e : KR ⟨0 + j.val, by omega⟩ ⟨512 + d.val - 512, by omega⟩ = KR ⟨0 + j.val, by omega⟩ ⟨0 + d.val, by omega⟩ := by congr 1; exact Fin.ext (by simp)
  pointwise []
  refine (hy d j).trans ?_
  congr 1 <;> exact Fin.ext (by simp)

end Cert.KernelIdeal.Val
-- ==== Proof.Val.RunA.lean ====
module

public import proofs.«01_k».proof.Proof.Frame.KernelIdeal.Runs

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5944000 in set_option sl_exec.stridedRows true in
set_option sl_exec.resultNames true in
/-- The body's run at the first point of a batch (`k = 0`, `t = 0`): the pieces it leaves in the outputs' buffers (`L9`, `L10`, `L11`: dq, dc, dk) and in the carried scratch (`LS0`, `LS1`, `LS2`: the dequantized keys transposed, the rope keys, the key scales), with the triple. -/
noncomputable def runA (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) :
    Σ' (L9 : List (View.Piece (Elt F) S1x8x576x128 .bf16)) (L10 : List (View.Piece (Elt F) S1x384x512 .f32)) (L11 : List (View.Piece (Elt F) S1x64x384 .f32)) (LS0 : List (View.Piece (Elt F) S576x384 .bf16)) (LS1 : List (View.Piece (Elt F) S384x64 .bf16)), { LS2 : List (View.Piece (Elt F) S384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_mla_bwd_eq_skeleton]; unfold cc0_mla_bwd_skel
    simp only [k0_part1_eq_skeleton, k0_part2_eq_skeleton, k0_part3_eq_skeleton, k0_part4_eq_skeleton, k0_part5_eq_skeleton, k0_part146_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part147_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Val

end
-- ==== Proof.Val.ChkA.lean ====
module

public import proofs.«01_k».proof.Proof.Val.Prep
import all proofs.«01_k».proof.Proof.Val.RunA
public import proofs.«01_k».proof.Proof.Val.RunA

@[expose] public section

set_option maxRecDepth 16384
set_option maxHeartbeats 1000000

noncomputable section

namespace Cert.KernelIdeal.Val

open Cert.KernelIdeal.Gen
open Idealize.ShloMosaic Idealize.ShloMosaic.TcCoe

variable {B : Blk}

attribute [local irreducible] shapeCast truncf mulf addf subf exp2 select broadcastTo extractStridedSlice concatenate

/-- The keys' scales, after the stores. -/
theorem csbA {c : Dev nD} {i : grid0.Coords} {arg6 : Memref sig .tc .vmem S2x384 .f32} {harg6 : arg6.IsWhole} {x3 : Vec Ideal S2x384 .f32} {CS : Fin 384 → EReal}
    (hcs : ∀ j : Fin 384, (if BitVec.ofNat 32 (i 0).val = 0#32 then x3 (ix2 0 j) else x3 (ix2 1 j)) = CS j) (j : Fin 384) (l : Fin 128) :
    View.canon (Val := Elt Ideal) (runA.sl.HS2_3 (F := Ideal) c i arg6 harg6 x3) (ix2 j l) = CS j := by
  apply til_all (e := .f32) (f := fun j _ => CS j)
  case h =>
    apply til_step (by decide) (by decide) (fun j l => csb_piece (u := 256) (by decide) (scale_ok (by decide) hcs) j l)
    apply til_step (by decide) (by decide) (fun j l => csb_piece (u := 128) (by decide) (scale_ok (by decide) hcs) j l)
    apply til_step (by decide) (by decide) (fun j l => csb_piece (u := 0) (by decide) (scale_ok (by decide) hcs) j l)
    exact til_zero
  case hP =>
    intro r j hr hj
    simp
    omega

/-- The rope keys, after the stores. -/
theorem krA {c : Dev nD} {arg7 : Memref sig .tc .vmem S1x64x384 .bf16} {harg7 : arg7.IsWhole} {x4 : Vec Ideal S1x64x384 .bf16} {KR : Fin 384 → Fin 64 → EReal}
    (hkr : ∀ (d : Fin 64) (j : Fin 384), x4 (ix3 0 d j) = KR j d) (j : Fin 384) (d : Fin 64) :
    View.canon (Val := Elt Ideal) (runA.sl.HS1_3 (F := Ideal) c arg7 harg7 x4) (ix2 j d) = KR j d := by
  apply til_all (e := .bf16) (f := fun j d => KR j d)
  case h =>
    apply til_step (by decide) (by decide) (fun j d => kr_piece (KR := KR) (u := 256) (by decide) (fun d j => ld3o (e := .bf16) (n := 64) (k := 384) (c := 64) (d := 128) (o := 0) (o' := 256) (X := fun d j => KR j d) (by decide) (by decide) hkr d j) j d)
    apply til_step (by decide) (by decide) (fun j d => kr_piece (KR := KR) (u := 128) (by decide) (fun d j => ld3o (e := .bf16) (n := 64) (k := 384) (c := 64) (d := 128) (o := 0) (o' := 128) (X := fun d j => KR j d) (by decide) (by decide) hkr d j) j d)
    apply til_step (by decide) (by decide) (fun j d => kr_piece (KR := KR) (u := 0) (by decide) (fun d j => ld3o (e := .bf16) (n := 64) (k := 384) (c := 64) (d := 128) (o := 0) (o' := 0) (X := fun d j => KR j d) (by decide) (by decide) hkr d j) j d)
    exact til_zero
  case hP =>
    intro r j hr hj
    simp
    omega

/-- The keys feature by feature, after the stores. -/
theorem ktA {c : Dev nD} {i : grid0.Coords} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole}
    {x2 : Vec Ideal S1x384x512 .fp8e4m3} {x3 : Vec Ideal S2x384 .f32} {x4 : Vec Ideal S1x64x384 .bf16} {C : Fin 384 → Fin 512 → EReal} {CS : Fin 384 → EReal} {KR : Fin 384 → Fin 64 → EReal}
    (hx2 : ∀ (j : Fin 384) (r : Fin 512), x2 (ix3 0 j r) = C j r)
    (hcs : ∀ j : Fin 384, (if BitVec.ofNat 32 (i 0).val = 0#32 then x3 (ix2 0 j) else x3 (ix2 1 j)) = CS j)
    (hkr : ∀ (d : Fin 64) (j : Fin 384), x4 (ix3 0 d j) = KR j d) (r : Fin 576) (j : Fin 384) :
    View.canon (Val := Elt Ideal) (runA.sl.HS0_13 (F := Ideal) c i arg5 harg5 arg6 harg6 arg7 harg7 x2 x3 x4) (ix2 r j) = ktf C CS KR r j := by
  apply til_all (e := .bf16) (f := fun r j => ktf C CS KR r j)
  case h =>
    apply til_step (by decide) (by decide) (fun d j => kt_r (KR := KR) (fun d j => ld3o (e := .bf16) (n := 64) (k := 384) (c := 64) (d := 384) (o := 0) (o' := 0) (X := fun d j => KR j d) (by decide) (by decide) hkr d j) d j)
    apply til_step (by decide) (by decide) (fun r j => kt_c (u := 256) (a := 384) (by decide) (by decide) (kt_piece (by decide) (by decide) (fun j r => ld3o (n := 384) (k := 512) (c := 128) (d := 128) (o := 256) (o' := 384) (by decide) (by decide) hx2 j r) (scale_ok (by decide) hcs) r j))
    apply til_step (by decide) (by decide) (fun r j => kt_c (u := 256) (a := 256) (by decide) (by decide) (kt_piece (by decide) (by decide) (fun j r => ld3o (n := 384) (k := 512) (c := 128) (d := 128) (o := 256) (o' := 256) (by decide) (by decide) hx2 j r) (scale_ok (by decide) hcs) r j))
    apply til_step (by decide) (by decide) (fun r j => kt_c (u := 256) (a := 128) (by decide) (by decide) (kt_piece (by decide) (by decide) (fun j r => ld3o (n := 384) (k := 512) (c := 128) (d := 128) (o := 256) (o' := 128) (by decide) (by decide) hx2 j r) (scale_ok (by decide) hcs) r j))
    apply til_step (by decide) (by decide) (fun r j => kt_c (u := 256) (a := 0) (by decide) (by decide) (kt_piece (by decide) (by decide) (fun j r => ld3o (n := 384) (k := 512) (c := 128) (d := 128) (o := 256) (o' := 0) (by decide) (by decide) hx2 j r) (scale_ok (by decide) hcs) r j))
    apply til_step (by decide) (by decide) (fun r j => kt_c (u := 128) (a := 384) (by decide) (by decide) (kt_piece (by decide) (by decide) (fun j r => ld3o (n := 384) (k := 512) (c := 128) (d := 128) (o := 128) (o' := 384) (by decide) (by decide) hx2 j r) (scale_ok (by decide) hcs) r j))
    apply til_step (by decide) (by decide) (fun r j => kt_c (u := 128) (a := 256) (by decide) (by decide) (kt_piece (by decide) (by decide) (fun j r => ld3o (n := 384) (k := 512) (c := 128) (d := 128) (o := 128) (o' := 256) (by decide) (by decide) hx2 j r) (scale_ok (by decide) hcs) r j))
    apply til_step (by decide) (by decide) (fun r j => kt_c (u := 128) (a := 128) (by decide) (by decide) (kt_piece (by decide) (by decide) (fun j r => ld3o (n := 384) (k := 512) (c := 128) (d := 128) (o := 128) (o' := 128) (by decide) (by decide) hx2 j r) (scale_ok (by decide) hcs) r j))
    apply til_step (by decide) (by decide) (fun r j => kt_c (u := 128) (a := 0) (by decide) (by decide) (kt_piece (by decide) (by decide) (fun j r => ld3o (n := 384) (k := 512) (c := 128) (d := 128) (o := 128) (o' := 0) (by decide) (by decide) hx2 j r) (scale_ok (by decide) hcs) r j))
    apply til_step (by decide) (by decide) (fun r j => kt_c (u := 0) (a := 384) (by decide) (by decide) (kt_piece (by decide) (by decide) (fun j r => ld3o (n := 384) (k := 512) (c := 128) (d := 128) (o := 0) (o' := 384) (by decide) (by decide) hx2 j r) (scale_ok (by decide) hcs) r j))
    apply til_step (by decide) (by decide) (fun r j => kt_c (u := 0) (a := 256) (by decide) (by decide) (kt_piece (by decide) (by decide) (fun j r => ld3o (n := 384) (k := 512) (c := 128) (d := 128) (o := 0) (o' := 256) (by decide) (by decide) hx2 j r) (scale_ok (by decide) hcs) r j))
    apply til_step (by decide) (by decide) (fun r j => kt_c (u := 0) (a := 128) (by decide) (by decide) (kt_piece (by decide) (by decide) (fun j r => ld3o (n := 384) (k := 512) (c := 128) (d := 128) (o := 0) (o' := 128) (by decide) (by decide) hx2 j r) (scale_ok (by decide) hcs) r j))
    apply til_step (by decide) (by decide) (fun r j => kt_c (u := 0) (a := 0) (by decide) (by decide) (kt_piece (by decide) (by decide) (fun j r => ld3o (n := 384) (k := 512) (c := 128) (d := 128) (o := 0) (o' := 0) (by decide) (by decide) hx2 j r) (scale_ok (by decide) hcs) r j))
    exact til_zero
  case hP =>
    intro r j hr hj
    simp
    omega

/-- The transposed output gradient of this branch. -/
theorem dorA {c : Dev nD} {arg10 : Memref sig .tc .vmem S128x1x32x128 .i8} {harg10 : arg10.IsWhole} {x7 : Vec Ideal S128x1x32x128 .i8}
    (hx : ∀ (t : Fin 128) (r : Fin 32) (l : Fin 128), x7 (ix4 t 0 r l) = B.dob t r l) :
    DorOK B 32 (runA.sl.HS3_128 (F := Ideal) c arg10 harg10 x7) := by
  iterate 32 refine dor_step (by decide) rfl rfl rfl rfl ?_ (word0_ok (tok_ok hx) (tok_ok hx) (tok_ok hx) (tok_ok hx)) (word1_ok (tok_ok hx) (tok_ok hx) (tok_ok hx) (tok_ok hx)) (word2_ok (tok_ok hx) (tok_ok hx) (tok_ok hx) (tok_ok hx)) (word3_ok (tok_ok hx) (tok_ok hx) (tok_ok hx) (tok_ok hx))
  exact dor_zero

/-- The row sums of this branch. -/
theorem deltaA {c : Dev nD} {arg8 : Memref sig .tc .vmem S128x1x32x128 .bf16} {harg8 : arg8.IsWhole} {arg10 : Memref sig .tc .vmem S128x1x32x128 .i8} {harg10 : arg10.IsWhole}
    {x5 : Vec Ideal S128x1x32x128 .bf16} {x7 : Vec Ideal S128x1x32x128 .i8}
    (hx : ∀ (t : Fin 128) (r : Fin 32) (l : Fin 128), x7 (ix4 t 0 r l) = B.dob t r l) (hy : ∀ (t : Fin 128) (r : Fin 32) (l : Fin 128), x5 (ix4 t 0 r l) = B.o t r l)
    (h : Fin 8) (i : Fin 128) : View.canon (Val := Elt Ideal) (runA.sl.HS4_1 (F := Ideal) c arg8 harg8 arg10 harg10 x5 x7) (ix2 h i) = B.DELTA h i := by
  refine delta_canon (delta_cast ?_) h i
  iterate 128 refine delta_step (by decide) (prod_ok _ hx hy) ?_
  exact delta_zero

/-- The block of dq. -/
theorem dqA {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : cond0_0 i} {hc1 : cond0_1 i} {hc2 : ¬cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32}
    (hk : B.k = 0) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨0 + u.val, by omega⟩) else x8 (ix2 1 ⟨0 + u.val, by omega⟩)) = B.ds u)
    (hcs : ∀ j : Fin 384, (if BitVec.ofNat 32 (i 0).val = 0#32 then x3 (ix2 0 j) else x3 (ix2 1 j)) = B.cs j) (hkr : ∀ (d : Fin 64) (j : Fin 384), x4 (ix3 0 d j) = B.kr j d)
    (hkt : ∀ (r : Fin 576) (j : Fin 384), B.kt r j = ktf B.c B.cs B.kr r j) :
    HeadsOK B 128 (by decide) 8 (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1 := by
  have DOR := dorA (B := B) (c := c) (arg10 := arg10) (harg10 := harg10) (x7 := x7) hx7
  have DELTA := deltaA (B := B) (c := c) (arg8 := arg8) (harg8 := harg8) (arg10 := arg10) (harg10 := harg10) (x5 := x5) (x7 := x7) hx7 hx5
  have HCS := csbA (c := c) (arg6 := arg6) (harg6 := harg6) hcs
  have HKR := krA (c := c) (arg7 := arg7) (harg7 := harg7) hkr
  have HKT := fun r j => (ktA (c := c) (arg5 := arg5) (harg5 := harg5) (arg6 := arg6) (harg6 := harg6) (arg7 := arg7) (harg7 := harg7) hx2 hcs hkr r j).trans (hkt r j).symm
  refine (pair_step (hp := 3) rfl rfl (dq128 (lkt' (by decide) HKT) (lcs (hn := by decide) (f := fun j l => B.G (hd 3 l) (ln l) j) (n := 4) (by decide) (by decide) ?g3))
    (pair_step (hp := 2) rfl rfl (dq128 (lkt' (by decide) HKT) (lcs (hn := by decide) (f := fun j l => B.G (hd 2 l) (ln l) j) (n := 4) (by decide) (by decide) ?g2))
    (pair_step (hp := 1) rfl rfl (dq128 (lkt' (by decide) HKT) (lcs (hn := by decide) (f := fun j l => B.G (hd 1 l) (ln l) j) (n := 4) (by decide) (by decide) ?g1))
    (pair_step (hp := 0) rfl rfl (dq128 (lkt' (by decide) HKT) (lcs (hn := by decide) (f := fun j l => B.G (hd 0 l) (ln l) j) (n := 4) (by decide) (by decide) ?g0))
    heads_zero))))
  case g3 | g2 | g1 | g0 =>
    iterate 4 (
      refine rows_step ?_ ?_
      rotate_left
      · intro j l
        refine piece_g (by decide) ?_ j l
        refine g_ok (by decide) (by decide) ?_ ?_ ?_ ?_
        · refine ps_ok (by decide) ?_ (ds_ok (by decide) hds)
          refine pm_ok (by decide) (by decide) (by decide) (by rw [hk]) ?_ ?_ ?_ ?_ ?_
          · exact (sn128 (ldc128 hx2) (qc_ok (qt_ok (qh_ok _ hx0) (qh_ok _ hx0))))
          · exact (sr128 (lkr' (by decide) HKR) (qr_ok (qt_ok (qh_ok _ hx0) (qh_ok _ hx0))))
          · exact (lcsb' (by decide) HCS)
          · exact (qsl_ok (cat_ok (row_ok _ hx1) (row_ok _ hx1)))
          · exact (lsel_ok (cat_ok (row_ok _ hx6) (row_ok _ hx6)))
        · exact (dp128 (ldc128 hx2) (do2_ok (doh_ok _ (by decide) (by decide) (by decide) (by decide) DOR) (doh_ok _ (by decide) (by decide) (by decide) (by decide) DOR)))
        · exact (lcsb' (by decide) HCS)
        · exact (cat_ok (ldelta _ DELTA) (ldelta _ DELTA)))
    exact rows_zero _ _ _

end Cert.KernelIdeal.Val
-- ==== Proof.Val.Entry.lean ====
module

public import proofs.«01_k».proof.Proof.Val.Spec
public import proofs.«01_k».proof.Proof.Val.Prep
public import proofs.«01_k».proof.Proof.Frame.KernelIdeal.Runs
public import Idealize.ShloMosaic.Lib.Pipeline.ValueKit
public import Idealize.ShloMosaic.Lib.Claim

/-! # What a grid point reads, in terms of the arguments

Point `t` works on batch `t / 6`, block of queries `t / 2 % 3` and heads `8 (t % 2) .. 8 (t % 2) + 7`. `Blk.of` names what it reads
entry by entry of the nine arguments; the theorems below say the point's input blocks hold just that. -/

@[expose] public section

set_option maxRecDepth 16384

noncomputable section

namespace Cert.KernelIdeal.Val

open Cert.KernelIdeal.Gen
open Idealize.ShloMosaic Idealize.ShloMosaic.TcCoe

/-- What the point of batch `b`, queries' block `k` and half `s` of the heads reads of the arguments. -/
def Blk.of (a0 : FVec Ideal S2x384x16x576 .fp8e4m3) (a1 : FVec Ideal S2x384x16 .f32) (a2 : FVec Ideal S2x384x512 .fp8e4m3)
    (a3 : FVec Ideal S2x384 .f32) (a4 : FVec Ideal S2x384x64 .bf16) (a5 : FVec Ideal S2x384x16x512 .bf16)
    (a6 : FVec Ideal S2x384x16 .f32) (a7 : Vec Ideal S2x384x16x512 .i8) (a8 : FVec Ideal S2x384 .f32)
    (b : Fin 2) (k : Fin 3) (s : Fin 2) : Blk where
  k := k.val
  q h r i := a0 (ix4 b ⟨128 * k.val + i.val, by omega⟩ ⟨8 * s.val + h.val, by omega⟩ r)
  qs h i := a1 (ix3 b ⟨128 * k.val + i.val, by omega⟩ ⟨8 * s.val + h.val, by omega⟩)
  c j r := a2 (ix3 b j r)
  cs j := a3 (ix2 b j)
  lse h i := a6 (ix3 b ⟨128 * k.val + i.val, by omega⟩ ⟨8 * s.val + h.val, by omega⟩)
  o i g l := a5 (ix4 b ⟨128 * k.val + i.val, by omega⟩ ⟨8 * s.val + g.val % 8, by omega⟩ ⟨128 * (g.val / 8) + l.val, by omega⟩)
  dob i g l := a7 (ix4 b ⟨128 * k.val + i.val, by omega⟩ ⟨8 * s.val + g.val % 8, by omega⟩ ⟨128 * (g.val / 8) + l.val, by omega⟩)
  ds i := a8 (ix2 b ⟨128 * k.val + i.val, by omega⟩)
  kt r j := ktf (fun j r => a2 (ix3 b j r)) (fun j => a3 (ix2 b j)) (fun j d => a4 (ix3 b j d)) r j
  kr j d := a4 (ix3 b j d)

/-- A point's number is below twelve. -/
theorem lt12 (t : Fin cfg0.N) : t.val < 12 := lt_of_lt_of_eq t.isLt (show cfg0.N = 12 from N_0)

variable (m : (ℓ : Loc nD τ sig) → Buf (Elt Ideal) ℓ)

/-- What point `t` reads. -/
def Bt (c : Dev nD) (t : Fin cfg0.N) : Blk :=
  Blk.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    ⟨t.val / 6, by have := lt12 t; omega⟩ ⟨t.val / 2 % 3, by omega⟩ ⟨t.val % 2, by omega⟩

/-- Where the windows' blocks lie. -/
theorem idx : ∀ t : Fin cfg0.N, win0_0.index t = ![t.val / 6, t.val % 2, 0, t.val / 2 % 3] ∧ win0_1.index t = ![t.val / 6, t.val % 2, t.val / 2 % 3]
    ∧ win0_2.index t = ![t.val / 6, 0, 0] ∧ win0_3.index t = ![0, 0] ∧ win0_4.index t = ![t.val / 6, 0, 0]
    ∧ win0_5.index t = ![t.val / 6 * 3 + t.val / 2 % 3, t.val % 2, 0, 0] ∧ win0_6.index t = ![t.val / 6, t.val % 2, t.val / 2 % 3]
    ∧ win0_7.index t = ![t.val / 6 * 3 + t.val / 2 % 3, t.val % 2, 0, 0] ∧ win0_8.index t = ![0, 0]
    ∧ win0_9.index t = ![t.val / 6, t.val % 2, 0, t.val / 2 % 3] :=
  (by decide +kernel : ∀ t : Fin grid0.N, _)

/-- The batch coordinate's test. -/
theorem bat : ∀ t : Fin cfg0.N, (BitVec.ofNat 32 (grid0.coords t 0).val = 0#32) ↔ t.val / 6 = 0 :=
  (by decide +kernel : ∀ t : Fin grid0.N, _)

theorem e0 (c : Dev nD) (t : Fin cfg0.N) (h : Fin 8) (r : Fin 576) (i : Fin 128) :
    iblk m c 0 t (ix4 (0 : Fin 1) h r i) = (Bt m c t).q h r i := by
  have := lt12 t
  blk_simp [iblk]
  entry_read
  pointwise [Bt, Blk.of]
  blk_ext [idx t]

theorem e1 (c : Dev nD) (t : Fin cfg0.N) (h : Fin 8) (i : Fin 128) :
    iblk m c 1 t (ix3 (0 : Fin 1) h i) = (Bt m c t).qs h i := by
  have := lt12 t
  blk_simp [iblk]
  entry_read
  pointwise [Bt, Blk.of]
  blk_ext [idx t]

theorem e2 (c : Dev nD) (t : Fin cfg0.N) (j : Fin 384) (r : Fin 512) :
    iblk m c 2 t (ix3 (0 : Fin 1) j r) = (Bt m c t).c j r := by
  have := lt12 t
  simp only [Bt, Blk.of]
  blk_ext [iblk, V, idx t]

theorem e3 (c : Dev nD) (t : Fin cfg0.N) (j : Fin 384) :
    (if BitVec.ofNat 32 (grid0.coords t 0).val = 0#32 then (iblk m c 3 t : Vec Ideal S2x384 .f32) (ix2 0 j) else (iblk m c 3 t : Vec Ideal S2x384 .f32) (ix2 1 j)) = (Bt m c t).cs j := by
  have := lt12 t
  simp only [Bt, Blk.of, bat]
  split
  · blk_ext [iblk, V, idx t]
  · blk_ext [iblk, V, idx t]

theorem e4 (c : Dev nD) (t : Fin cfg0.N) (d : Fin 64) (j : Fin 384) :
    iblk m c 4 t (ix3 (0 : Fin 1) d j) = (Bt m c t).kr j d := by
  have := lt12 t
  blk_simp [iblk]
  entry_read
  pointwise [Bt, Blk.of]
  blk_ext [idx t]

theorem e5 (c : Dev nD) (t : Fin cfg0.N) (i : Fin 128) (g : Fin 32) (l : Fin 128) :
    iblk m c 5 t (ix4 i (0 : Fin 1) g l) = (Bt m c t).o i g l := by
  have := lt12 t
  blk_simp [iblk]
  entry_read
  pointwise [Bt, Blk.of]
  blk_ext [idx t]

theorem e6 (c : Dev nD) (t : Fin cfg0.N) (h : Fin 8) (i : Fin 128) :
    iblk m c 6 t (ix3 (0 : Fin 1) h i) = (Bt m c t).lse h i := by
  have := lt12 t
  blk_simp [iblk]
  entry_read
  pointwise [Bt, Blk.of]
  blk_ext [idx t]

theorem e7 (c : Dev nD) (t : Fin cfg0.N) (i : Fin 128) (g : Fin 32) (l : Fin 128) :
    iblk m c 7 t (ix4 i (0 : Fin 1) g l) = (Bt m c t).dob i g l := by
  have := lt12 t
  blk_simp [iblk]
  entry_read
  pointwise [Bt, Blk.of]
  blk_ext [idx t]

theorem e8 (c : Dev nD) (t : Fin cfg0.N) (n : ℕ) (hn : n + 128 ≤ 384) (e : n = 128 * (t.val / 2 % 3)) (u : Fin 128) :
    (if BitVec.ofNat 32 (grid0.coords t 0).val = 0#32 then (iblk m c 8 t : Vec Ideal S2x384 .f32) (ix2 0 ⟨n + u.val, by omega⟩) else (iblk m c 8 t : Vec Ideal S2x384 .f32) (ix2 1 ⟨n + u.val, by omega⟩)) = (Bt m c t).ds u := by
  have := lt12 t
  subst e
  simp only [Bt, Blk.of, bat]
  split
  · blk_ext [iblk, V, idx t]
  · blk_ext [iblk, V, idx t]

end Cert.KernelIdeal.Val
-- ==== Proof.Val.Out.lean ====
module

public import proofs.«01_k».proof.Proof.Val.ChkA
public import proofs.«01_k».proof.Proof.Val.Entry

/-! # The contents a point leaves

The block of dq and the three arrays a batch prepares, as whole blocks: what the stores of each branch leave, read back. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of dq. -/
def dqb (B : Blk) (n : ℕ) (hn : n ≤ 384) : Vec Ideal S1x8x576x128 .bf16 := fun x => B.DQ n hn (x 1) (x 2) (x 3)
/-- The keys, feature by feature. -/
def ktb (B : Blk) : Vec Ideal S576x384 .bf16 := fun x => B.kt (x 0) (x 1)
/-- The rope keys. -/
def krb (B : Blk) : Vec Ideal S384x64 .bf16 := fun x => B.kr (x 0) (x 1)
/-- The keys' scales. -/
def csb (B : Blk) : Vec Ideal S384x128 .f32 := fun x => B.cs (x 0)

/-- A list of stores holding every head's block is the block of dq. -/
theorem canon_dqb {B : Blk} {n : ℕ} {hn : n ≤ 384} {L} (h : HeadsOK B n hn 8 L) : View.canon (Val := Elt Ideal) L = dqb B n hn := funext fun x => by
  have e : x = ix4 (0 : Fin 1) (x 1) (x 2) (x 3) := by
    funext z
    match z with
    | ⟨0, _⟩ => exact Subsingleton.elim (α := Fin 1) _ _
    | ⟨1, _⟩ => rfl
    | ⟨2, _⟩ => rfl
    | ⟨3, _⟩ => rfl
  exact (congrArg _ e).trans (h (x 1) (x 2) (x 3) (x 1).isLt)

/-- A matrix entry by entry. -/
theorem mat_ext {M N : ℕ} {e : EltTy} {f g : (⟨2, ![M, N]⟩ : Shape).Idx → Elt Ideal e} (h : ∀ (r : Fin M) (j : Fin N), f (ix2 r j) = g (ix2 r j)) : f = g := funext fun x => by
  have e : x = ix2 (x 0) (x 1) := by
    funext z
    match z with
    | ⟨0, _⟩ => rfl
    | ⟨1, _⟩ => rfl
  rw [e]
  exact h (x 0) (x 1)

/-- The stores so far reach everything in `P`. -/
def Cov {M N : ℕ} {e : EltTy} (P : ℕ → ℕ → Prop) (L : List (View.Piece (Elt Ideal) (⟨2, ![M, N]⟩ : Shape) e)) : Prop :=
  ∀ (r : Fin M) (j : Fin N), P r.val j.val → ∃ p ∈ L, (ix2 r j : (⟨2, ![M, N]⟩ : Shape).Idx) ∈ p.1.set

theorem cov_zero {M N : ℕ} {e : EltTy} {L} : Cov (M := M) (N := N) (e := e) (fun _ _ => False) L := fun _ _ h => h.elim

theorem cov_step {M N a b n p : ℕ} {e : EltTy} {P : ℕ → ℕ → Prop}
    {inb : ∀ z, (![a, b] : Fin 2 → ℕ) z + (⟨2, ![n, p]⟩ : Shape).size z ≤ (⟨2, ![M, N]⟩ : Shape).size z}
    {w : (⟨2, ![n, p]⟩ : Shape).Idx → Elt Ideal e} {L : List (View.Piece (Elt Ideal) (⟨2, ![M, N]⟩ : Shape) e)} (hL : Cov P L) :
    Cov (M := M) (N := N) (fun r j => (a ≤ r ∧ r < a + n ∧ b ≤ j ∧ j < b + p) ∨ P r j) (⟨Rect.unit ![a, b] (⟨2, ![n, p]⟩ : Shape).size inb, w⟩ :: L) := by
  intro r j h
  rcases h with h | h
  · have hm : (ix2 r j : (⟨2, ![M, N]⟩ : Shape).Idx) ∈ (Rect.unit (s := ⟨2, ![M, N]⟩) ![a, b] (⟨2, ![n, p]⟩ : Shape).size inb).set :=
      Rect.mem_set_unit.mpr fun z => by
        match z with
        | ⟨0, _⟩ => exact ⟨h.1, h.2.1⟩
        | ⟨1, _⟩ => exact ⟨h.2.2.1, h.2.2.2⟩
    exact ⟨_, List.mem_cons_self, hm⟩
  · obtain ⟨q, hq, hm⟩ := hL r j h
    exact ⟨q, List.mem_cons_of_mem _ hq, hm⟩

theorem cov_all {M N : ℕ} {e : EltTy} {P : ℕ → ℕ → Prop} {L : List (View.Piece (Elt Ideal) (⟨2, ![M, N]⟩ : Shape) e)} (h : Cov P L)
    (hP : ∀ r j, r < M → j < N → P r j) (y : (⟨2, ![M, N]⟩ : Shape).Idx) : ∃ p ∈ L, y ∈ p.1.set := by
  have e : y = ix2 (y 0) (y 1) := by
    funext z
    match z with
    | ⟨0, _⟩ => rfl
    | ⟨1, _⟩ => rfl
  rw [e]
  exact h (y 0) (y 1) (hP _ _ (y 0).isLt (y 1).isLt)

theorem covKT {c : Dev nD} {i : grid0.Coords} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {x2 : Vec Ideal S1x384x512 .fp8e4m3} {x3 : Vec Ideal S2x384 .f32} {x4 : Vec Ideal S1x64x384 .bf16} (y) :
    ∃ p ∈ runA.sl.HS0_13 (F := Ideal) c i arg5 harg5 arg6 harg6 arg7 harg7 x2 x3 x4, y ∈ p.1.set := by
  apply cov_all
  case h =>
    iterate 13 apply cov_step
    exact cov_zero
  case hP =>
    intro r j hr hj
    simp
    omega

theorem covKR {c : Dev nD} {arg7 : Memref sig .tc .vmem S1x64x384 .bf16} {harg7 : arg7.IsWhole} {x4 : Vec Ideal S1x64x384 .bf16} (y) :
    ∃ p ∈ runA.sl.HS1_3 (F := Ideal) c arg7 harg7 x4, y ∈ p.1.set := by
  apply cov_all
  case h =>
    iterate 3 apply cov_step
    exact cov_zero
  case hP =>
    intro r j hr hj
    simp
    omega

theorem covCS {c : Dev nD} {i : grid0.Coords} {arg6 : Memref sig .tc .vmem S2x384 .f32} {harg6 : arg6.IsWhole} {x3 : Vec Ideal S2x384 .f32} (y) :
    ∃ p ∈ runA.sl.HS2_3 (F := Ideal) c i arg6 harg6 x3, y ∈ p.1.set := by
  apply cov_all
  case h =>
    iterate 3 apply cov_step
    exact cov_zero
  case hP =>
    intro r j hr hj
    simp
    omega

end Cert.KernelIdeal.Val

end
-- ==== Proof.Val.Dats.lean ====
module

public import proofs.«01_k».proof.Proof.Val.Out

/-! # The data of the run

What each buffer holds before and after a point: the inputs their blocks, dq's buffer the block of dq, the three prepared arrays
the batch's own from its first point on; the buffers of dc and dk are left unstated. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The prepared arrays depend on the batch only. -/
theorem prep_eq (c : Dev nD) (t s : Fin cfg0.N) (h : t.val / 6 = s.val / 6) :
    ktb (Bt m c t) = ktb (Bt m c s) ∧ krb (Bt m c t) = krb (Bt m c s) ∧ csb (Bt m c t) = csb (Bt m c s) := by
  have hb : (⟨t.val / 6, by have := lt12 t; omega⟩ : Fin 2) = ⟨s.val / 6, by have := lt12 s; omega⟩ := Fin.ext h
  unfold Bt
  rw [hb]
  exact ⟨rfl, rfl, rfl⟩

/-- What is held between points: after a point, the arrays prepared for its batch. -/
def PhiS (c : Dev nD) : (n : ℕ) → n ≤ cfg0.N → sProp 𝕄
  | 0, _ => Pipeline.ΦA spec0 c
  | n + 1, hn => iprop(iprop(owns (c : Thread nD τ) scM0_0 fullShare (ktb (Bt m c ⟨n, hn⟩)) ∗ owns (c : Thread nD τ) scM0_1 fullShare (krb (Bt m c ⟨n, hn⟩)) ∗ owns (c : Thread nD τ) scM0_2 fullShare (csb (Bt m c ⟨n, hn⟩)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) scM0_0 fullShare (ktb (Bt m c ⟨n, hn⟩)) ∗ owns (c : Thread nD τ) scM0_1 fullShare (krb (Bt m c ⟨n, hn⟩)) ∗ owns (c : Thread nD τ) scM0_2 fullShare (csb (Bt m c ⟨n, hn⟩)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

theorem PhiS_pos (c : Dev nD) (n : ℕ) (h : n ≤ cfg0.N) (hz : n ≠ 0) : PhiS m c n h = iprop(iprop(owns (c : Thread nD τ) scM0_0 fullShare (ktb (Bt m c ⟨n - 1, by omega⟩)) ∗ owns (c : Thread nD τ) scM0_1 fullShare (krb (Bt m c ⟨n - 1, by omega⟩)) ∗ owns (c : Thread nD τ) scM0_2 fullShare (csb (Bt m c ⟨n - 1, by omega⟩)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-- The outputs of which nothing is stated: dc and dk. -/
def forgets0 : Fin 12 → Bool := fun w => w.val == 10 || w.val == 11

/-- The block of dq a point leaves. -/
def dqt (c : Dev nD) (t : Fin cfg0.N) : Vec Ideal S1x8x576x128 .bf16 := dqb (Bt m c t) (128 * (t.val / 2 % 3 + 1)) (by omega)

/-- The run's data on a core. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqt m c t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dqt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by unfold Dat.leavesExact; rw [liveAt0_7 t], after0_7]
theorem leaves0_8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by unfold Dat.leavesExact; rw [liveAt0_8 t], after0_8]
theorem leaves0_9 (c : Dev nD) (t : Fin cfg0.N) : (dats m 0 c).leavesExact 9 t = owns (c : Thread nD τ) (ms0_9 t) fullShare (dqt m c t) := by
  rw [show (dats m 0 c).leavesExact 9 t = owns (c : Thread nD τ) (ms0_9 t) fullShare ((dats m 0 c).after 9 t) from by
    unfold Dat.leavesExact
    cases cfg0.idle 9 (cfg0.grid.coords t)
    · rfl
    · rw [flush0_9 t], after0_9]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

/-- What the body needs at a point, with the prepared arrays at `S`. -/
def preS (c : Dev nD) (t : Fin cfg0.N) (S : sProp 𝕄) : sProp 𝕄 :=
  iprop(iprop(iprop(S ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The prepared arrays of point `t`'s batch. -/
def scrT (c : Dev nD) (t : Fin cfg0.N) : sProp 𝕄 :=
  iprop(owns (c : Thread nD τ) scM0_0 fullShare (ktb (Bt m c t)) ∗ owns (c : Thread nD τ) scM0_1 fullShare (krb (Bt m c t)) ∗ owns (c : Thread nD τ) scM0_2 fullShare (csb (Bt m c t)))

/-- The buffers of the prepared arrays, at anything. -/
def scrE (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

/-- What the body leaves at a point. -/
def postS (c : Dev nD) (t : Fin cfg0.N) : sProp 𝕄 :=
  iprop(iprop(iprop(scrT m c t ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (dqt m c t)
    ∗ (∃ d, owns (c : Thread nD τ) (ms0_10 t) fullShare d)
    ∗ (∃ d, owns (c : Thread nD τ) (ms0_11 t) fullShare d))

end Cert.KernelIdeal.Val

end
-- ==== Proof.Val.OutA.lean ====
module

public import proofs.«01_k».proof.Proof.Val.Out
public import proofs.«01_k».proof.Proof.Val.ChkA

/-! # What the branch at queries' block 0, first of a batch, leaves of dq -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What this branch leaves of dq, read back. -/
theorem outA{B : Blk} {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : cond0_0 i} {hc1 : cond0_1 i} {hc2 : ¬cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32}
    (hk : B.k = 0) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨0 + u.val, by omega⟩) else x8 (ix2 1 ⟨0 + u.val, by omega⟩)) = B.ds u)
    (hcs : ∀ j : Fin 384, (if BitVec.ofNat 32 (i 0).val = 0#32 then x3 (ix2 0 j) else x3 (ix2 1 j)) = B.cs j) (hkr : ∀ (d : Fin 64) (j : Fin 384), x4 (ix3 0 d j) = B.kr j d)
    (hkt : ∀ (r : Fin 576) (j : Fin 384), B.kt r j = ktf B.c B.cs B.kr r j)
    {v : View sig .tc .vmem S1x8x576x128 .bf16} {f : v.ty.Contents (Elt Ideal)} :
    v.read (Elt Ideal) (v.writes (Elt Ideal) f (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1) = dqb B 128 (by decide) :=
  (View.read_writes_eq_canon v f ((runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1) (View.cover_of_tiledL ((runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1) S1x1x576x128.size (by sl_kernel_rfl))).trans
    (canon_dqb (L := (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8).1) (dqA hk hx0 hx1 hx2 hx5 hx6 hx7 hds hcs hkr hkt))

/-- The keys, read back. -/
theorem outA0 {B : Blk} {c : Dev nD} {i : grid0.Coords} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole}
    {x2 : Vec Ideal S1x384x512 .fp8e4m3} {x3 : Vec Ideal S2x384 .f32} {x4 : Vec Ideal S1x64x384 .bf16}
    {v : View sig .tc .vmem S576x384 .bf16} {f : v.ty.Contents (Elt Ideal)}
    (hx2 : ∀ (j : Fin 384) (r : Fin 512), x2 (ix3 0 j r) = B.c j r)
    (hcs : ∀ j : Fin 384, (if BitVec.ofNat 32 (i 0).val = 0#32 then x3 (ix2 0 j) else x3 (ix2 1 j)) = B.cs j)
    (hkr : ∀ (d : Fin 64) (j : Fin 384), x4 (ix3 0 d j) = B.kr j d) (hkt : ∀ (r : Fin 576) (j : Fin 384), B.kt r j = ktf B.c B.cs B.kr r j) :
    v.read (Elt Ideal) (v.writes (Elt Ideal) f (runA.sl.HS0_13 (F := Ideal) c i arg5 harg5 arg6 harg6 arg7 harg7 x2 x3 x4)) = ktb B :=
  (View.read_writes_eq_canon v f _ covKT).trans (mat_ext fun r j => (ktA hx2 hcs hkr r j).trans (hkt r j).symm)

/-- The rope keys, read back. -/
theorem outA1 {B : Blk} {c : Dev nD} {arg7 : Memref sig .tc .vmem S1x64x384 .bf16} {harg7 : arg7.IsWhole} {x4 : Vec Ideal S1x64x384 .bf16}
    {v : View sig .tc .vmem S384x64 .bf16} {f : v.ty.Contents (Elt Ideal)} (hkr : ∀ (d : Fin 64) (j : Fin 384), x4 (ix3 0 d j) = B.kr j d) :
    v.read (Elt Ideal) (v.writes (Elt Ideal) f (runA.sl.HS1_3 (F := Ideal) c arg7 harg7 x4)) = krb B :=
  (View.read_writes_eq_canon v f _ covKR).trans (mat_ext fun j d => krA hkr j d)

/-- The keys' scales, read back. -/
theorem outA2 {B : Blk} {c : Dev nD} {i : grid0.Coords} {arg6 : Memref sig .tc .vmem S2x384 .f32} {harg6 : arg6.IsWhole} {x3 : Vec Ideal S2x384 .f32}
    {v : View sig .tc .vmem S384x128 .f32} {f : v.ty.Contents (Elt Ideal)}
    (hcs : ∀ j : Fin 384, (if BitVec.ofNat 32 (i 0).val = 0#32 then x3 (ix2 0 j) else x3 (ix2 1 j)) = B.cs j) :
    v.read (Elt Ideal) (v.writes (Elt Ideal) f (runA.sl.HS2_3 (F := Ideal) c i arg6 harg6 x3)) = csb B :=
  (View.read_writes_eq_canon v f _ covCS).trans (mat_ext fun j l => csbA hcs j l)

end Cert.KernelIdeal.Val

end
-- ==== Proof.Val.BodyA.lean ====
module

public import proofs.«01_k».proof.Proof.Val.Dats
public import proofs.«01_k».proof.Proof.Val.OutA

/-! # The body where queries' block is 0, first of a batch -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 32000000 in
theorem bodyA (c : Dev nD) (t : Fin cfg0.N) (h0 : t.val % 6 = 0) (h1 : t.val / 2 % 3 = 0) (h2 : ¬t.val / 2 % 3 = 1) (h3 : ¬t.val / 2 % 3 = 2) :
    preS m c t (scrE c) ⊢ wp frame (wpE (defs₀ (F := Ideal)) Variants.none c none) Set.univ (bodyAt0 t) (fun _ => postS m c t) := by
  have hk : (Bt m c t).k = 0 := h1
  have hd : dqt m c t = dqb (Bt m c t) 128 (by decide) := by unfold dqt; congr 1; omega
  unfold preS postS scrT scrE bodyAt0
  rw [hd]
  iintro ⟨⟨⟨⟨HS0, HS1, HS2⟩, HS3, HS4, HS5, HS6, HS7⟩, Hg⟩, Ho, H0, H1, H2, H3, H4, H5, H6, H7, H8, H9, ⟨%d10, H10⟩, ⟨%d11, H11⟩⟩
  iapply ((runA c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, ⟨%f9, H9⟩, ⟨%f10, H10⟩, ⟨%f11, H11⟩, ⟨%g0, HS0⟩, ⟨%g1, HS1⟩, ⟨%g2, HS2⟩, HS3, HS4, HS5, HS6, HS7⟩
  isplitl [HS0 HS1 HS2 HS3 HS4 HS5 HS6 HS7 Hg]
  · isplitl [HS0 HS1 HS2 HS3 HS4 HS5 HS6 HS7]
    · isplitl [HS0 HS1 HS2]
      · isplitl [HS0]
        · unfold owns; iexists _; isplitr
          swap; · iexact HS0
          ipureintro; exact outA0 (e2 m c t) (e3 m c t) (e4 m c t) (fun _ _ => rfl)
        isplitl [HS1]
        · unfold owns; iexists _; isplitr
          swap; · iexact HS1
          ipureintro; exact outA1 (e4 m c t)
        unfold owns; iexists _; isplitr
        swap; · iexact HS2
        ipureintro; exact outA2 (e3 m c t)
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact outA hk (e0 m c t) (e1 m c t) (e2 m c t) (e5 m c t) (e6 m c t) (e7 m c t) (e8 m c t 0 (by decide) (by omega)) (e3 m c t) (e4 m c t) (fun _ _ => rfl)
  isplitl [H10]
  · iexists _; unfold owns; iexists _; isplitr
    swap; · iexact H10
    ipureintro; rfl
  iexists _; unfold owns; iexists _; isplitr
  swap; · iexact H11
  ipureintro; rfl

end Cert.KernelIdeal.Val

end
-- ==== Proof.Val.RunB.lean ====
module

public import proofs.«01_k».proof.Proof.Frame.KernelIdeal.Runs

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5588000 in set_option sl_exec.stridedRows true in
set_option sl_exec.resultNames true in
/-- The body's run at `k = 0`, `t = 1`: the pieces it leaves in the outputs' buffers (`L9`, `L10`, `L11`: dq, dc, dk), from what the point before left in dc and dk (`x10`, `x11`) and in the carried scratch (`xs0`, `xs1`, `xs2`), with the triple. -/
noncomputable def runB (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : cond0_1 i) (hc2 : ¬cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (x10 : Vec F S1x384x512 .f32) (x11 : Vec F S1x64x384 .f32) (xs0 : Vec F S576x384 .bf16) (xs1 : Vec F S384x64 .bf16) (xs2 : Vec F S384x128 .f32) :
    Σ' (L9 : List (View.Piece (Elt F) S1x8x576x128 .bf16)) (L10 : List (View.Piece (Elt F) S1x384x512 .f32)), { L11 : List (View.Piece (Elt F) S1x64x384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare x10 ∗ owns (c : Thread nD τ) arg14 fullShare x11 ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ iprop(arg13.view.loc (c : Thread nD τ) ↦[arg13.view.set]{fullShare} arg13.view.writes (Elt F) (harg13.unread x10) L10) ∗ iprop(arg14.view.loc (c : Thread nD τ) ↦[arg14.view.set]{fullShare} arg14.view.writes (Elt F) (harg14.unread x11) L11) ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0_mla_bwd_eq_skeleton]; unfold cc0_mla_bwd_skel
    simp only [k0_part146_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part147_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2; obtain rfl := harg13.eq_unread hf10; obtain rfl := harg14.eq_unread hf11; obtain rfl := harg15.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexact H10
    isplitl [H11]; · iexact H11
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Val

end
-- ==== Proof.Val.ChkB.lean ====
module

public import proofs.«01_k».proof.Proof.Val.Acc
import all proofs.«01_k».proof.Proof.Val.RunB
public import proofs.«01_k».proof.Proof.Val.RunB

@[expose] public section

set_option maxRecDepth 16384
set_option maxHeartbeats 1000000

noncomputable section

namespace Cert.KernelIdeal.Val

open Cert.KernelIdeal.Gen
open Idealize.ShloMosaic Idealize.ShloMosaic.TcCoe

variable {B : Blk}

attribute [local irreducible] shapeCast truncf mulf addf subf exp2 select broadcastTo extractStridedSlice concatenate

/-- The transposed output gradient of this branch. -/
theorem dorB {c : Dev nD} {arg10 : Memref sig .tc .vmem S128x1x32x128 .i8} {harg10 : arg10.IsWhole} {x7 : Vec Ideal S128x1x32x128 .i8}
    (hx : ∀ (t : Fin 128) (r : Fin 32) (l : Fin 128), x7 (ix4 t 0 r l) = B.dob t r l) :
    DorOK B 32 (runB.sl.HS3_128 (F := Ideal) c arg10 harg10 x7) := by
  iterate 32 refine dor_step (by decide) rfl rfl rfl rfl ?_ (word0_ok (tok_ok hx) (tok_ok hx) (tok_ok hx) (tok_ok hx)) (word1_ok (tok_ok hx) (tok_ok hx) (tok_ok hx) (tok_ok hx)) (word2_ok (tok_ok hx) (tok_ok hx) (tok_ok hx) (tok_ok hx)) (word3_ok (tok_ok hx) (tok_ok hx) (tok_ok hx) (tok_ok hx))
  exact dor_zero

/-- The row sums of this branch. -/
theorem deltaB {c : Dev nD} {arg8 : Memref sig .tc .vmem S128x1x32x128 .bf16} {harg8 : arg8.IsWhole} {arg10 : Memref sig .tc .vmem S128x1x32x128 .i8} {harg10 : arg10.IsWhole}
    {x5 : Vec Ideal S128x1x32x128 .bf16} {x7 : Vec Ideal S128x1x32x128 .i8}
    (hx : ∀ (t : Fin 128) (r : Fin 32) (l : Fin 128), x7 (ix4 t 0 r l) = B.dob t r l) (hy : ∀ (t : Fin 128) (r : Fin 32) (l : Fin 128), x5 (ix4 t 0 r l) = B.o t r l)
    (h : Fin 8) (i : Fin 128) : View.canon (Val := Elt Ideal) (runB.sl.HS4_1 (F := Ideal) c arg8 harg8 arg10 harg10 x5 x7) (ix2 h i) = B.DELTA h i := by
  refine delta_canon (delta_cast ?_) h i
  iterate 128 refine delta_step (by decide) (prod_ok _ hx hy) ?_
  exact delta_zero

/-- The block of dq. -/
theorem dqB {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : cond0_1 i} {hc2 : ¬cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 0) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨0 + u.val, by omega⟩) else x8 (ix2 1 ⟨0 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j) :
    HeadsOK B 128 (by decide) 8 (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1 := by
  have DOR := dorB (B := B) (c := c) (arg10 := arg10) (harg10 := harg10) (x7 := x7) hx7
  have DELTA := deltaB (B := B) (c := c) (arg8 := arg8) (harg8 := harg8) (arg10 := arg10) (harg10 := harg10) (x5 := x5) (x7 := x7) hx7 hx5
  refine (pair_step (hp := 3) rfl rfl (dq128 (lkt (by decide) hkt) (lcs (hn := by decide) (f := fun j l => B.G (hd 3 l) (ln l) j) (n := 4) (by decide) (by decide) ?g3))
    (pair_step (hp := 2) rfl rfl (dq128 (lkt (by decide) hkt) (lcs (hn := by decide) (f := fun j l => B.G (hd 2 l) (ln l) j) (n := 4) (by decide) (by decide) ?g2))
    (pair_step (hp := 1) rfl rfl (dq128 (lkt (by decide) hkt) (lcs (hn := by decide) (f := fun j l => B.G (hd 1 l) (ln l) j) (n := 4) (by decide) (by decide) ?g1))
    (pair_step (hp := 0) rfl rfl (dq128 (lkt (by decide) hkt) (lcs (hn := by decide) (f := fun j l => B.G (hd 0 l) (ln l) j) (n := 4) (by decide) (by decide) ?g0))
    heads_zero))))
  case g3 | g2 | g1 | g0 =>
    iterate 4 (
      refine rows_step ?_ ?_
      rotate_left
      · intro j l
        refine piece_g (by decide) ?_ j l
        refine g_ok (by decide) (by decide) ?_ ?_ ?_ ?_
        · refine ps_ok (by decide) ?_ (ds_ok (by decide) hds)
          refine pm_ok (by decide) (by decide) (by decide) (by rw [hk]) ?_ ?_ ?_ ?_ ?_
          · exact (sn128 (ldc128 hx2) (qc_ok (qt_ok (qh_ok _ hx0) (qh_ok _ hx0))))
          · exact (sr128 (lkr (by decide) hkr) (qr_ok (qt_ok (qh_ok _ hx0) (qh_ok _ hx0))))
          · exact (lcsb (by decide) hcs)
          · exact (qsl_ok (cat_ok (row_ok _ hx1) (row_ok _ hx1)))
          · exact (lsel_ok (cat_ok (row_ok _ hx6) (row_ok _ hx6)))
        · exact (dp128 (ldc128 hx2) (do2_ok (doh_ok _ (by decide) (by decide) (by decide) (by decide) DOR) (doh_ok _ (by decide) (by decide) (by decide) (by decide) DOR)))
        · exact (lcsb (by decide) hcs)
        · exact (cat_ok (ldelta _ DELTA) (ldelta _ DELTA)))
    exact rows_zero _ _ _

end Cert.KernelIdeal.Val
-- ==== Proof.Val.OutB.lean ====
module

public import proofs.«01_k».proof.Proof.Val.Out
public import proofs.«01_k».proof.Proof.Val.ChkB

/-! # What the branch at queries' block 0, leaves of dq -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What this branch leaves of dq, read back. -/
theorem outB{B : Blk} {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : cond0_1 i} {hc2 : ¬cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 0) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨0 + u.val, by omega⟩) else x8 (ix2 1 ⟨0 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j)
    {v : View sig .tc .vmem S1x8x576x128 .bf16} {f : v.ty.Contents (Elt Ideal)} :
    v.read (Elt Ideal) (v.writes (Elt Ideal) f (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) = dqb B 128 (by decide) :=
  (View.read_writes_eq_canon v f ((runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (View.cover_of_tiledL ((runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) S1x1x576x128.size (by sl_kernel_rfl))).trans
    (canon_dqb (L := (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (dqB hk hx0 hx1 hx2 hx5 hx6 hx7 hds hkt hkr hcs))

end Cert.KernelIdeal.Val

end
-- ==== Proof.Val.BodyB.lean ====
module

public import proofs.«01_k».proof.Proof.Val.Dats
public import proofs.«01_k».proof.Proof.Val.OutB

/-! # The body where queries' block is 0 -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 32000000 in
theorem bodyB (c : Dev nD) (t : Fin cfg0.N) (h0 : ¬t.val % 6 = 0) (h1 : t.val / 2 % 3 = 0) (h2 : ¬t.val / 2 % 3 = 1) (h3 : ¬t.val / 2 % 3 = 2) :
    preS m c t (scrT m c t) ⊢ wp frame (wpE (defs₀ (F := Ideal)) Variants.none c none) Set.univ (bodyAt0 t) (fun _ => postS m c t) := by
  have hk : (Bt m c t).k = 0 := h1
  have hd : dqt m c t = dqb (Bt m c t) 128 (by decide) := by unfold dqt; congr 1; omega
  unfold preS postS scrT bodyAt0
  rw [hd]
  iintro ⟨⟨⟨⟨HS0, HS1, HS2⟩, HS3, HS4, HS5, HS6, HS7⟩, Hg⟩, Ho, H0, H1, H2, H3, H4, H5, H6, H7, H8, H9, ⟨%d10, H10⟩, ⟨%d11, H11⟩⟩
  iapply ((runB c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) d10 d11 (ktb (Bt m c t)) (krb (Bt m c t)) (csb (Bt m c t))).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, ⟨%f9, H9⟩, H10, H11, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0 HS1 HS2]
      · isplitl [HS0]; · iexact HS0
        isplitl [HS1]; · iexact HS1
        iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact outB hk (e0 m c t) (e1 m c t) (e2 m c t) (e5 m c t) (e6 m c t) (e7 m c t) (e8 m c t 0 (by decide) (by omega)) (fun _ _ => rfl) (fun _ _ => rfl) (fun _ _ => rfl)
  isplitl [H10]
  · iexists _; unfold owns; iexists _; isplitr
    swap; · iexact H10
    ipureintro; rfl
  iexists _; unfold owns; iexists _; isplitr
  swap; · iexact H11
  ipureintro; rfl

end Cert.KernelIdeal.Val

end
-- ==== Proof.Val.RunC.lean ====
module

public import proofs.«01_k».proof.Proof.Frame.KernelIdeal.Runs

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6372000 in set_option sl_exec.stridedRows true in
set_option sl_exec.resultNames true in
/-- The body's run at `k = 1`: the pieces it leaves in the outputs' buffers (`L9`, `L10`, `L11`: dq, dc, dk), from what the point before left in dc and dk (`x10`, `x11`) and in the carried scratch (`xs0`, `xs1`, `xs2`), with the triple. -/
noncomputable def runC (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : cond0_2 i) (hc3 : ¬cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (x10 : Vec F S1x384x512 .f32) (x11 : Vec F S1x64x384 .f32) (xs0 : Vec F S576x384 .bf16) (xs1 : Vec F S384x64 .bf16) (xs2 : Vec F S384x128 .f32) :
    Σ' (L9 : List (View.Piece (Elt F) S1x8x576x128 .bf16)) (L10 : List (View.Piece (Elt F) S1x384x512 .f32)), { L11 : List (View.Piece (Elt F) S1x64x384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare x10 ∗ owns (c : Thread nD τ) arg14 fullShare x11 ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ iprop(arg13.view.loc (c : Thread nD τ) ↦[arg13.view.set]{fullShare} arg13.view.writes (Elt F) (harg13.unread x10) L10) ∗ iprop(arg14.view.loc (c : Thread nD τ) ↦[arg14.view.set]{fullShare} arg14.view.writes (Elt F) (harg14.unread x11) L11) ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0_mla_bwd_eq_skeleton]; unfold cc0_mla_bwd_skel
    simp only [k0_part301_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part302_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part303_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2; obtain rfl := harg13.eq_unread hf10; obtain rfl := harg14.eq_unread hf11; obtain rfl := harg15.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexact H10
    isplitl [H11]; · iexact H11
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Val

end
-- ==== Proof.Val.ChkC.lean ====
module

public import proofs.«01_k».proof.Proof.Val.Acc
import all proofs.«01_k».proof.Proof.Val.RunC
public import proofs.«01_k».proof.Proof.Val.RunC

@[expose] public section

set_option maxRecDepth 16384
set_option maxHeartbeats 1000000

noncomputable section

namespace Cert.KernelIdeal.Val

open Cert.KernelIdeal.Gen
open Idealize.ShloMosaic Idealize.ShloMosaic.TcCoe

variable {B : Blk}

attribute [local irreducible] shapeCast truncf mulf addf subf exp2 select broadcastTo extractStridedSlice concatenate

/-- The transposed output gradient of this branch. -/
theorem dorC {c : Dev nD} {arg10 : Memref sig .tc .vmem S128x1x32x128 .i8} {harg10 : arg10.IsWhole} {x7 : Vec Ideal S128x1x32x128 .i8}
    (hx : ∀ (t : Fin 128) (r : Fin 32) (l : Fin 128), x7 (ix4 t 0 r l) = B.dob t r l) :
    DorOK B 32 (runC.sl.HS3_128 (F := Ideal) c arg10 harg10 x7) := by
  iterate 32 refine dor_step (by decide) rfl rfl rfl rfl ?_ (word0_ok (tok_ok hx) (tok_ok hx) (tok_ok hx) (tok_ok hx)) (word1_ok (tok_ok hx) (tok_ok hx) (tok_ok hx) (tok_ok hx)) (word2_ok (tok_ok hx) (tok_ok hx) (tok_ok hx) (tok_ok hx)) (word3_ok (tok_ok hx) (tok_ok hx) (tok_ok hx) (tok_ok hx))
  exact dor_zero

/-- The row sums of this branch. -/
theorem deltaC {c : Dev nD} {arg8 : Memref sig .tc .vmem S128x1x32x128 .bf16} {harg8 : arg8.IsWhole} {arg10 : Memref sig .tc .vmem S128x1x32x128 .i8} {harg10 : arg10.IsWhole}
    {x5 : Vec Ideal S128x1x32x128 .bf16} {x7 : Vec Ideal S128x1x32x128 .i8}
    (hx : ∀ (t : Fin 128) (r : Fin 32) (l : Fin 128), x7 (ix4 t 0 r l) = B.dob t r l) (hy : ∀ (t : Fin 128) (r : Fin 32) (l : Fin 128), x5 (ix4 t 0 r l) = B.o t r l)
    (h : Fin 8) (i : Fin 128) : View.canon (Val := Elt Ideal) (runC.sl.HS4_1 (F := Ideal) c arg8 harg8 arg10 harg10 x5 x7) (ix2 h i) = B.DELTA h i := by
  refine delta_canon (delta_cast ?_) h i
  iterate 128 refine delta_step (by decide) (prod_ok _ hx hy) ?_
  exact delta_zero

/-- The block of dq. -/
theorem dqC {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : ¬cond0_1 i} {hc2 : cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 1) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨128 + u.val, by omega⟩) else x8 (ix2 1 ⟨128 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j) :
    HeadsOK B 256 (by decide) 8 (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1 := by
  have DOR := dorC (B := B) (c := c) (arg10 := arg10) (harg10 := harg10) (x7 := x7) hx7
  have DELTA := deltaC (B := B) (c := c) (arg8 := arg8) (harg8 := harg8) (arg10 := arg10) (harg10 := harg10) (x5 := x5) (x7 := x7) hx7 hx5
  refine (pair_step (hp := 3) rfl rfl (dq256 (lkt (by decide) hkt) (lcs (hn := by decide) (f := fun j l => B.G (hd 3 l) (ln l) j) (n := 8) (by decide) (by decide) ?g3))
    (pair_step (hp := 2) rfl rfl (dq256 (lkt (by decide) hkt) (lcs (hn := by decide) (f := fun j l => B.G (hd 2 l) (ln l) j) (n := 8) (by decide) (by decide) ?g2))
    (pair_step (hp := 1) rfl rfl (dq256 (lkt (by decide) hkt) (lcs (hn := by decide) (f := fun j l => B.G (hd 1 l) (ln l) j) (n := 8) (by decide) (by decide) ?g1))
    (pair_step (hp := 0) rfl rfl (dq256 (lkt (by decide) hkt) (lcs (hn := by decide) (f := fun j l => B.G (hd 0 l) (ln l) j) (n := 8) (by decide) (by decide) ?g0))
    heads_zero))))
  case g3 | g2 | g1 | g0 =>
    iterate 4 (
      refine rows_step ?_ ?_
      rotate_left
      · intro j l
        refine piece_g (by decide) ?_ j l
        refine g_ok (by decide) (by decide) ?_ ?_ ?_ ?_
        · refine ps_ok (by decide) ?_ (ds_ok (by decide) hds)
          refine pm_ok (by decide) (by decide) (by decide) (by rw [hk]) ?_ ?_ ?_ ?_ ?_
          · exact (sn256 (ldc256 hx2) (qc_ok (qt_ok (qh_ok _ hx0) (qh_ok _ hx0))))
          · exact (sr256 (lkr (by decide) hkr) (qr_ok (qt_ok (qh_ok _ hx0) (qh_ok _ hx0))))
          · exact (lcsb (by decide) hcs)
          · exact (qsl_ok (cat_ok (row_ok _ hx1) (row_ok _ hx1)))
          · exact (lsel_ok (cat_ok (row_ok _ hx6) (row_ok _ hx6)))
        · exact (dp256 (ldc256 hx2) (do2_ok (doh_ok _ (by decide) (by decide) (by decide) (by decide) DOR) (doh_ok _ (by decide) (by decide) (by decide) (by decide) DOR)))
        · exact (lcsb (by decide) hcs)
        · exact (cat_ok (ldelta _ DELTA) (ldelta _ DELTA)))
    iterate 4 (
      refine rows_step ?_ ?_
      rotate_left
      · intro j l
        refine piece_g (by decide) ?_ j l
        refine g_ok (by decide) (by decide) ?_ ?_ ?_ ?_
        · refine ps_ok (by decide) ?_ (ds_ok (by decide) hds)
          refine pu_ok (by decide) (by decide) (by rw [hk] <;> decide) ?_ ?_ ?_ ?_ ?_
          · exact (sn256 (ldc256 hx2) (qc_ok (qt_ok (qh_ok _ hx0) (qh_ok _ hx0))))
          · exact (sr256 (lkr (by decide) hkr) (qr_ok (qt_ok (qh_ok _ hx0) (qh_ok _ hx0))))
          · exact (lcsb (by decide) hcs)
          · exact (qsl_ok (cat_ok (row_ok _ hx1) (row_ok _ hx1)))
          · exact (lsel_ok (cat_ok (row_ok _ hx6) (row_ok _ hx6)))
        · exact (dp256 (ldc256 hx2) (do2_ok (doh_ok _ (by decide) (by decide) (by decide) (by decide) DOR) (doh_ok _ (by decide) (by decide) (by decide) (by decide) DOR)))
        · exact (lcsb (by decide) hcs)
        · exact (cat_ok (ldelta _ DELTA) (ldelta _ DELTA)))
    exact rows_zero _ _ _

end Cert.KernelIdeal.Val
-- ==== Proof.Val.OutC.lean ====
module

public import proofs.«01_k».proof.Proof.Val.Out
public import proofs.«01_k».proof.Proof.Val.ChkC

/-! # What the branch at queries' block 1, leaves of dq -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What this branch leaves of dq, read back. -/
theorem outC{B : Blk} {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : ¬cond0_1 i} {hc2 : cond0_2 i} {hc3 : ¬cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 1) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨128 + u.val, by omega⟩) else x8 (ix2 1 ⟨128 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j)
    {v : View sig .tc .vmem S1x8x576x128 .bf16} {f : v.ty.Contents (Elt Ideal)} :
    v.read (Elt Ideal) (v.writes (Elt Ideal) f (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) = dqb B 256 (by decide) :=
  (View.read_writes_eq_canon v f ((runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (View.cover_of_tiledL ((runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) S1x1x576x128.size (by sl_kernel_rfl))).trans
    (canon_dqb (L := (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (dqC hk hx0 hx1 hx2 hx5 hx6 hx7 hds hkt hkr hcs))

end Cert.KernelIdeal.Val

end
-- ==== Proof.Val.BodyC.lean ====
module

public import proofs.«01_k».proof.Proof.Val.Dats
public import proofs.«01_k».proof.Proof.Val.OutC

/-! # The body where queries' block is 1 -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 32000000 in
theorem bodyC (c : Dev nD) (t : Fin cfg0.N) (h0 : ¬t.val % 6 = 0) (h1 : ¬t.val / 2 % 3 = 0) (h2 : t.val / 2 % 3 = 1) (h3 : ¬t.val / 2 % 3 = 2) :
    preS m c t (scrT m c t) ⊢ wp frame (wpE (defs₀ (F := Ideal)) Variants.none c none) Set.univ (bodyAt0 t) (fun _ => postS m c t) := by
  have hk : (Bt m c t).k = 1 := h2
  have hd : dqt m c t = dqb (Bt m c t) 256 (by decide) := by unfold dqt; congr 1; omega
  unfold preS postS scrT bodyAt0
  rw [hd]
  iintro ⟨⟨⟨⟨HS0, HS1, HS2⟩, HS3, HS4, HS5, HS6, HS7⟩, Hg⟩, Ho, H0, H1, H2, H3, H4, H5, H6, H7, H8, H9, ⟨%d10, H10⟩, ⟨%d11, H11⟩⟩
  iapply ((runC c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) d10 d11 (ktb (Bt m c t)) (krb (Bt m c t)) (csb (Bt m c t))).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, ⟨%f9, H9⟩, H10, H11, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0 HS1 HS2]
      · isplitl [HS0]; · iexact HS0
        isplitl [HS1]; · iexact HS1
        iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact outC hk (e0 m c t) (e1 m c t) (e2 m c t) (e5 m c t) (e6 m c t) (e7 m c t) (e8 m c t 128 (by decide) (by omega)) (fun _ _ => rfl) (fun _ _ => rfl) (fun _ _ => rfl)
  isplitl [H10]
  · iexists _; unfold owns; iexists _; isplitr
    swap; · iexact H10
    ipureintro; rfl
  iexists _; unfold owns; iexists _; isplitr
  swap; · iexact H11
  ipureintro; rfl

end Cert.KernelIdeal.Val

end
-- ==== Proof.Val.RunD.lean ====
module

public import proofs.«01_k».proof.Proof.Frame.KernelIdeal.Runs

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7096000 in set_option sl_exec.stridedRows true in
set_option sl_exec.resultNames true in
/-- The body's run at `k = 2`: the pieces it leaves in the outputs' buffers (`L9`, `L10`, `L11`: dq, dc, dk), from what the point before left in dc and dk (`x10`, `x11`) and in the carried scratch (`xs0`, `xs1`, `xs2`), with the triple. -/
noncomputable def runD (c : Dev nD) (i : grid0.Coords) (arg3 : Memref sig .tc .vmem S1x8x576x128 .fp8e4m3) (harg3 : arg3.IsWhole) (arg4 : Memref sig .tc .vmem S1x8x128 .f32) (harg4 : arg4.IsWhole) (arg5 : Memref sig .tc .vmem S1x384x512 .fp8e4m3) (harg5 : arg5.IsWhole) (arg6 : Memref sig .tc .vmem S2x384 .f32) (harg6 : arg6.IsWhole) (arg7 : Memref sig .tc .vmem S1x64x384 .bf16) (harg7 : arg7.IsWhole) (arg8 : Memref sig .tc .vmem S128x1x32x128 .bf16) (harg8 : arg8.IsWhole) (arg9 : Memref sig .tc .vmem S1x8x128 .f32) (harg9 : arg9.IsWhole) (arg10 : Memref sig .tc .vmem S128x1x32x128 .i8) (harg10 : arg10.IsWhole) (arg11 : Memref sig .tc .vmem S2x384 .f32) (harg11 : arg11.IsWhole) (arg12 : Memref sig .tc .vmem S1x8x576x128 .bf16) (harg12 : arg12.IsWhole) (arg13 : Memref sig .tc .vmem S1x384x512 .f32) (harg13 : arg13.IsWhole) (arg14 : Memref sig .tc .vmem S1x64x384 .f32) (harg14 : arg14.IsWhole) (arg15 : Memref sig .tc .vmem S576x384 .bf16) (harg15 : arg15.IsWhole) (arg16 : Memref sig .tc .vmem S384x64 .bf16) (harg16 : arg16.IsWhole) (arg17 : Memref sig .tc .vmem S384x128 .f32) (harg17 : arg17.IsWhole) (arg18 : Memref sig .tc .vmem S1152x128 .i32) (harg18 : arg18.IsWhole) (arg19 : Memref sig .tc .vmem S8x128 .f32) (harg19 : arg19.IsWhole) (arg20 : Memref sig .tc .vmem S2x384x256 .bf16) (harg20 : arg20.IsWhole) (arg21 : Memref sig .tc .vmem S2x384x256 .bf16) (harg21 : arg21.IsWhole) (arg22 : Memref sig .tc .vmem S2x384x256 .bf16) (harg22 : arg22.IsWhole) (hc0 : ¬cond0_0 i) (hc1 : ¬cond0_1 i) (hc2 : ¬cond0_2 i) (hc3 : cond0_3 i)
    (x0 : Vec F S1x8x576x128 .fp8e4m3) (x1 : Vec F S1x8x128 .f32) (x2 : Vec F S1x384x512 .fp8e4m3) (x3 : Vec F S2x384 .f32) (x4 : Vec F S1x64x384 .bf16) (x5 : Vec F S128x1x32x128 .bf16) (x6 : Vec F S1x8x128 .f32) (x7 : Vec F S128x1x32x128 .i8) (x8 : Vec F S2x384 .f32) (x10 : Vec F S1x384x512 .f32) (x11 : Vec F S1x64x384 .f32) (xs0 : Vec F S576x384 .bf16) (xs1 : Vec F S384x64 .bf16) (xs2 : Vec F S384x128 .f32) :
    Σ' (L9 : List (View.Piece (Elt F) S1x8x576x128 .bf16)) (L10 : List (View.Piece (Elt F) S1x384x512 .f32)), { L11 : List (View.Piece (Elt F) S1x64x384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare x10 ∗ owns (c : Thread nD τ) arg14 fullShare x11 ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ iprop(arg13.view.loc (c : Thread nD τ) ↦[arg13.view.set]{fullShare} arg13.view.writes (Elt F) (harg13.unread x10) L10) ∗ iprop(arg14.view.loc (c : Thread nD τ) ↦[arg14.view.set]{fullShare} arg14.view.writes (Elt F) (harg14.unread x11) L11) ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0_mla_bwd_eq_skeleton]; unfold cc0_mla_bwd_skel
    rw [dif_neg (show ¬ k0_cond1 i = 1#1 from hc0), dif_neg (show ¬ k0_cond2 i = 1#1 from hc1), dif_neg (show ¬ k0_cond3 i = 1#1 from hc2), dif_pos (show k0_cond4 i = 1#1 from hc3)]
    simp only [k0_part471_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part472_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part473_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs1; obtain rfl := harg17.eq_unread hfs2; obtain rfl := harg13.eq_unread hf10; obtain rfl := harg14.eq_unread hf11; obtain rfl := harg15.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexact H10
    isplitl [H11]; · iexact H11
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Val

end
-- ==== Proof.Val.ChkD.lean ====
module

public import proofs.«01_k».proof.Proof.Val.Acc
import all proofs.«01_k».proof.Proof.Val.RunD
public import proofs.«01_k».proof.Proof.Val.RunD

@[expose] public section

set_option maxRecDepth 16384
set_option maxHeartbeats 1000000

noncomputable section

namespace Cert.KernelIdeal.Val

open Cert.KernelIdeal.Gen
open Idealize.ShloMosaic Idealize.ShloMosaic.TcCoe

variable {B : Blk}

attribute [local irreducible] shapeCast truncf mulf addf subf exp2 select broadcastTo extractStridedSlice concatenate

/-- The transposed output gradient of this branch. -/
theorem dorD {c : Dev nD} {arg10 : Memref sig .tc .vmem S128x1x32x128 .i8} {harg10 : arg10.IsWhole} {x7 : Vec Ideal S128x1x32x128 .i8}
    (hx : ∀ (t : Fin 128) (r : Fin 32) (l : Fin 128), x7 (ix4 t 0 r l) = B.dob t r l) :
    DorOK B 32 (runD.sl.HS3_128 (F := Ideal) c arg10 harg10 x7) := by
  iterate 32 refine dor_step (by decide) rfl rfl rfl rfl ?_ (word0_ok (tok_ok hx) (tok_ok hx) (tok_ok hx) (tok_ok hx)) (word1_ok (tok_ok hx) (tok_ok hx) (tok_ok hx) (tok_ok hx)) (word2_ok (tok_ok hx) (tok_ok hx) (tok_ok hx) (tok_ok hx)) (word3_ok (tok_ok hx) (tok_ok hx) (tok_ok hx) (tok_ok hx))
  exact dor_zero

/-- The row sums of this branch. -/
theorem deltaD {c : Dev nD} {arg8 : Memref sig .tc .vmem S128x1x32x128 .bf16} {harg8 : arg8.IsWhole} {arg10 : Memref sig .tc .vmem S128x1x32x128 .i8} {harg10 : arg10.IsWhole}
    {x5 : Vec Ideal S128x1x32x128 .bf16} {x7 : Vec Ideal S128x1x32x128 .i8}
    (hx : ∀ (t : Fin 128) (r : Fin 32) (l : Fin 128), x7 (ix4 t 0 r l) = B.dob t r l) (hy : ∀ (t : Fin 128) (r : Fin 32) (l : Fin 128), x5 (ix4 t 0 r l) = B.o t r l)
    (h : Fin 8) (i : Fin 128) : View.canon (Val := Elt Ideal) (runD.sl.HS4_1 (F := Ideal) c arg8 harg8 arg10 harg10 x5 x7) (ix2 h i) = B.DELTA h i := by
  refine delta_canon (delta_cast ?_) h i
  iterate 128 refine delta_step (by decide) (prod_ok _ hx hy) ?_
  exact delta_zero

/-- The block of dq. -/
theorem dqD {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : ¬cond0_1 i} {hc2 : ¬cond0_2 i} {hc3 : cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 2) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨256 + u.val, by omega⟩) else x8 (ix2 1 ⟨256 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j) :
    HeadsOK B 384 (by decide) 8 (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1 := by
  have DOR := dorD (B := B) (c := c) (arg10 := arg10) (harg10 := harg10) (x7 := x7) hx7
  have DELTA := deltaD (B := B) (c := c) (arg8 := arg8) (harg8 := harg8) (arg10 := arg10) (harg10 := harg10) (x5 := x5) (x7 := x7) hx7 hx5
  refine (pair_step (hp := 3) rfl rfl (dq384 (lkt (by decide) hkt) (lcs (hn := by decide) (f := fun j l => B.G (hd 3 l) (ln l) j) (n := 12) (by decide) (by decide) ?g3))
    (pair_step (hp := 2) rfl rfl (dq384 (lkt (by decide) hkt) (lcs (hn := by decide) (f := fun j l => B.G (hd 2 l) (ln l) j) (n := 12) (by decide) (by decide) ?g2))
    (pair_step (hp := 1) rfl rfl (dq384 (lkt (by decide) hkt) (lcs (hn := by decide) (f := fun j l => B.G (hd 1 l) (ln l) j) (n := 12) (by decide) (by decide) ?g1))
    (pair_step (hp := 0) rfl rfl (dq384 (lkt (by decide) hkt) (lcs (hn := by decide) (f := fun j l => B.G (hd 0 l) (ln l) j) (n := 12) (by decide) (by decide) ?g0))
    heads_zero))))
  case g3 | g2 | g1 | g0 =>
    iterate 4 (
      refine rows_step ?_ ?_
      rotate_left
      · intro j l
        refine piece_g (by decide) ?_ j l
        refine g_ok (by decide) (by decide) ?_ ?_ ?_ ?_
        · refine ps_ok (by decide) ?_ (ds_ok (by decide) hds)
          refine pm_ok (by decide) (by decide) (by decide) (by rw [hk]) ?_ ?_ ?_ ?_ ?_
          · exact (sn384 (ldc384 hx2) (qc_ok (qt_ok (qh_ok _ hx0) (qh_ok _ hx0))))
          · exact (sr384 (lkr (by decide) hkr) (qr_ok (qt_ok (qh_ok _ hx0) (qh_ok _ hx0))))
          · exact (lcsb (by decide) hcs)
          · exact (qsl_ok (cat_ok (row_ok _ hx1) (row_ok _ hx1)))
          · exact (lsel_ok (cat_ok (row_ok _ hx6) (row_ok _ hx6)))
        · exact (dp384 (ldc384 hx2) (do2_ok (doh_ok _ (by decide) (by decide) (by decide) (by decide) DOR) (doh_ok _ (by decide) (by decide) (by decide) (by decide) DOR)))
        · exact (lcsb (by decide) hcs)
        · exact (cat_ok (ldelta _ DELTA) (ldelta _ DELTA)))
    iterate 8 (
      refine rows_step ?_ ?_
      rotate_left
      · intro j l
        refine piece_g (by decide) ?_ j l
        refine g_ok (by decide) (by decide) ?_ ?_ ?_ ?_
        · refine ps_ok (by decide) ?_ (ds_ok (by decide) hds)
          refine pu_ok (by decide) (by decide) (by rw [hk] <;> decide) ?_ ?_ ?_ ?_ ?_
          · exact (sn384 (ldc384 hx2) (qc_ok (qt_ok (qh_ok _ hx0) (qh_ok _ hx0))))
          · exact (sr384 (lkr (by decide) hkr) (qr_ok (qt_ok (qh_ok _ hx0) (qh_ok _ hx0))))
          · exact (lcsb (by decide) hcs)
          · exact (qsl_ok (cat_ok (row_ok _ hx1) (row_ok _ hx1)))
          · exact (lsel_ok (cat_ok (row_ok _ hx6) (row_ok _ hx6)))
        · exact (dp384 (ldc384 hx2) (do2_ok (doh_ok _ (by decide) (by decide) (by decide) (by decide) DOR) (doh_ok _ (by decide) (by decide) (by decide) (by decide) DOR)))
        · exact (lcsb (by decide) hcs)
        · exact (cat_ok (ldelta _ DELTA) (ldelta _ DELTA)))
    exact rows_zero _ _ _

end Cert.KernelIdeal.Val
-- ==== Proof.Val.OutD.lean ====
module

public import proofs.«01_k».proof.Proof.Val.Out
public import proofs.«01_k».proof.Proof.Val.ChkD

/-! # What the branch at queries' block 2, leaves of dq -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What this branch leaves of dq, read back. -/
theorem outD{B : Blk} {c : Dev nD} {i : grid0.Coords} {arg3 : Memref sig .tc .vmem S1x8x576x128 .fp8e4m3} {harg3 : arg3.IsWhole} {arg4 : Memref sig .tc .vmem S1x8x128 .f32} {harg4 : arg4.IsWhole} {arg5 : Memref sig .tc .vmem S1x384x512 .fp8e4m3} {harg5 : arg5.IsWhole} {arg6 : Memref sig .tc .vmem S2x384 .f32} {harg6 : arg6.IsWhole} {arg7 : Memref sig .tc .vmem S1x64x384 .bf16} {harg7 : arg7.IsWhole} {arg8 : Memref sig .tc .vmem S128x1x32x128 .bf16} {harg8 : arg8.IsWhole} {arg9 : Memref sig .tc .vmem S1x8x128 .f32} {harg9 : arg9.IsWhole} {arg10 : Memref sig .tc .vmem S128x1x32x128 .i8} {harg10 : arg10.IsWhole} {arg11 : Memref sig .tc .vmem S2x384 .f32} {harg11 : arg11.IsWhole} {arg12 : Memref sig .tc .vmem S1x8x576x128 .bf16} {harg12 : arg12.IsWhole} {arg13 : Memref sig .tc .vmem S1x384x512 .f32} {harg13 : arg13.IsWhole} {arg14 : Memref sig .tc .vmem S1x64x384 .f32} {harg14 : arg14.IsWhole} {arg15 : Memref sig .tc .vmem S576x384 .bf16} {harg15 : arg15.IsWhole} {arg16 : Memref sig .tc .vmem S384x64 .bf16} {harg16 : arg16.IsWhole} {arg17 : Memref sig .tc .vmem S384x128 .f32} {harg17 : arg17.IsWhole} {arg18 : Memref sig .tc .vmem S1152x128 .i32} {harg18 : arg18.IsWhole} {arg19 : Memref sig .tc .vmem S8x128 .f32} {harg19 : arg19.IsWhole} {arg20 : Memref sig .tc .vmem S2x384x256 .bf16} {harg20 : arg20.IsWhole} {arg21 : Memref sig .tc .vmem S2x384x256 .bf16} {harg21 : arg21.IsWhole} {arg22 : Memref sig .tc .vmem S2x384x256 .bf16} {harg22 : arg22.IsWhole} {hc0 : ¬cond0_0 i} {hc1 : ¬cond0_1 i} {hc2 : ¬cond0_2 i} {hc3 : cond0_3 i}
    {x0 : Vec Ideal S1x8x576x128 .fp8e4m3} {x1 : Vec Ideal S1x8x128 .f32} {x2 : Vec Ideal S1x384x512 .fp8e4m3} {x3 : Vec Ideal S2x384 .f32} {x4 : Vec Ideal S1x64x384 .bf16} {x5 : Vec Ideal S128x1x32x128 .bf16} {x6 : Vec Ideal S1x8x128 .f32} {x7 : Vec Ideal S128x1x32x128 .i8} {x8 : Vec Ideal S2x384 .f32} {x10 : Vec Ideal S1x384x512 .f32} {x11 : Vec Ideal S1x64x384 .f32} {xs0 : Vec Ideal S576x384 .bf16} {xs1 : Vec Ideal S384x64 .bf16} {xs2 : Vec Ideal S384x128 .f32}
    (hk : B.k = 2) (hx0 : ∀ (h : Fin 8) (r : Fin 576) (i : Fin 128), x0 (ix4 0 h r i) = B.q h r i) (hx1 : ∀ (h : Fin 8) (i : Fin 128), x1 (ix3 0 h i) = B.qs h i)
    (hx2 : ∀ (j : Fin 384) (r : Fin 512), x2 (ix3 0 j r) = B.c j r) (hx5 : ∀ (t : Fin 128) (r : Fin 32) (l : Fin 128), x5 (ix4 t 0 r l) = B.o t r l)
    (hx6 : ∀ (h : Fin 8) (i : Fin 128), x6 (ix3 0 h i) = B.lse h i) (hx7 : ∀ (t : Fin 128) (r : Fin 32) (l : Fin 128), x7 (ix4 t 0 r l) = B.dob t r l)
    (hds : ∀ u : Fin 128, (if BitVec.ofNat 32 (i 0).val = 0#32 then x8 (ix2 0 ⟨256 + u.val, by omega⟩) else x8 (ix2 1 ⟨256 + u.val, by omega⟩)) = B.ds u)
    (hkt : ∀ (r : Fin 576) (j : Fin 384), xs0 (ix2 r j) = B.kt r j) (hkr : ∀ (j : Fin 384) (d : Fin 64), xs1 (ix2 j d) = B.kr j d) (hcs : ∀ (j : Fin 384) (l : Fin 128), xs2 (ix2 j l) = B.cs j)
    {v : View sig .tc .vmem S1x8x576x128 .bf16} {f : v.ty.Contents (Elt Ideal)} :
    v.read (Elt Ideal) (v.writes (Elt Ideal) f (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) = dqb B 384 (by decide) :=
  (View.read_writes_eq_canon v f ((runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (View.cover_of_tiledL ((runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) S1x1x576x128.size (by sl_kernel_rfl))).trans
    (canon_dqb (L := (runD (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 x3 x4 x5 x6 x7 x8 x10 x11 xs0 xs1 xs2).1) (dqD hk hx0 hx1 hx2 hx5 hx6 hx7 hds hkt hkr hcs))

end Cert.KernelIdeal.Val

end
-- ==== Proof.Val.BodyD.lean ====
module

public import proofs.«01_k».proof.Proof.Val.Dats
public import proofs.«01_k».proof.Proof.Val.OutD

/-! # The body where queries' block is 2 -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 32000000 in
theorem bodyD (c : Dev nD) (t : Fin cfg0.N) (h0 : ¬t.val % 6 = 0) (h1 : ¬t.val / 2 % 3 = 0) (h2 : ¬t.val / 2 % 3 = 1) (h3 : t.val / 2 % 3 = 2) :
    preS m c t (scrT m c t) ⊢ wp frame (wpE (defs₀ (F := Ideal)) Variants.none c none) Set.univ (bodyAt0 t) (fun _ => postS m c t) := by
  have hk : (Bt m c t).k = 2 := h3
  have hd : dqt m c t = dqb (Bt m c t) 384 (by decide) := by unfold dqt; congr 1; omega
  unfold preS postS scrT bodyAt0
  rw [hd]
  iintro ⟨⟨⟨⟨HS0, HS1, HS2⟩, HS3, HS4, HS5, HS6, HS7⟩, Hg⟩, Ho, H0, H1, H2, H3, H4, H5, H6, H7, H8, H9, ⟨%d10, H10⟩, ⟨%d11, H11⟩⟩
  iapply ((runD c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) d10 d11 (ktb (Bt m c t)) (krb (Bt m c t)) (csb (Bt m c t))).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, ⟨%f9, H9⟩, H10, H11, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0 HS1 HS2]
      · isplitl [HS0]; · iexact HS0
        isplitl [HS1]; · iexact HS1
        iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact outD hk (e0 m c t) (e1 m c t) (e2 m c t) (e5 m c t) (e6 m c t) (e7 m c t) (e8 m c t 256 (by decide) (by omega)) (fun _ _ => rfl) (fun _ _ => rfl) (fun _ _ => rfl)
  isplitl [H10]
  · iexists _; unfold owns; iexists _; isplitr
    swap; · iexact H10
    ipureintro; rfl
  iexists _; unfold owns; iexists _; isplitr
  swap; · iexact H11
  ipureintro; rfl

end Cert.KernelIdeal.Val

end
-- ==== Proof.Val.Run.lean ====
module

public import proofs.«01_k».proof.Proof.Val.BodyA
public import proofs.«01_k».proof.Proof.Val.BodyB
public import proofs.«01_k».proof.Proof.Val.BodyC
public import proofs.«01_k».proof.Proof.Val.BodyD
public import proofs.«01_k».proof.Proof.Val.Dats

/-! # The run of the kernel

Every point's body, the launch, and the array of dq after it: entry by entry a function of the arguments. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
theorem pre_zero (c : Dev nD) (t : Fin cfg0.N) (hz : t.val = 0) : bodyPre m c t ⊢ preS m c t (scrE c) := by
  unfold bodyPre preS scrE
  simp only [before0_0, before0_1, before0_2, before0_3, before0_4, before0_5, before0_6, before0_7, before0_8]
  rw [PhiS_castSucc m c t, PhiS_zero m c _ _ hz, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  isplitl [HS0 HS1 HS2 HS3 HS4 HS5 HS6 HS7 Hg]
  · isplitl [HS0 HS1 HS2 HS3 HS4 HS5 HS6 HS7]
    · isplitl [HS0 HS1 HS2]
      · isplitl [HS0]; · iexact HS0
        isplitl [HS1]; · iexact HS1
        iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

set_option maxHeartbeats 4000000 in
theorem pre_first (c : Dev nD) (t : Fin cfg0.N) (hz : t.val ≠ 0) : bodyPre m c t ⊢ preS m c t (scrE c) := by
  unfold bodyPre preS scrE
  simp only [before0_0, before0_1, before0_2, before0_3, before0_4, before0_5, before0_6, before0_7, before0_8]
  rw [PhiS_castSucc m c t, PhiS_pos m c _ _ hz]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  isplitl [HS0 HS1 HS2 HS3 HS4 HS5 HS6 HS7 Hg]
  · isplitl [HS0 HS1 HS2 HS3 HS4 HS5 HS6 HS7]
    · isplitl [HS0 HS1 HS2]
      · isplitl [HS0]; · iexists _; iexact HS0
        isplitl [HS1]; · iexists _; iexact HS1
        iexists _; iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

set_option maxHeartbeats 4000000 in
theorem pre_next (c : Dev nD) (t : Fin cfg0.N) (h0 : ¬t.val % 6 = 0) : bodyPre m c t ⊢ preS m c t (scrT m c t) := by
  unfold bodyPre preS scrT
  simp only [before0_0, before0_1, before0_2, before0_3, before0_4, before0_5, before0_6, before0_7, before0_8]
  rw [PhiS_castSucc m c t, PhiS_pos m c _ _ (by omega)]
  rw [(prep_eq m c ⟨t.val - 1, by omega⟩ t (by show (t.val - 1) / 6 = t.val / 6; omega)).1, (prep_eq m c ⟨t.val - 1, by omega⟩ t (by show (t.val - 1) / 6 = t.val / 6; omega)).2.1, (prep_eq m c ⟨t.val - 1, by omega⟩ t (by show (t.val - 1) / 6 = t.val / 6; omega)).2.2]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  isplitl [HS0 HS1 HS2 HS3 HS4 HS5 HS6 HS7 Hg]
  · isplitl [HS0 HS1 HS2 HS3 HS4 HS5 HS6 HS7]
    · isplitl [HS0 HS1 HS2]
      · isplitl [HS0]; · iexact HS0
        isplitl [HS1]; · iexact HS1
        iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

set_option maxHeartbeats 4000000 in
theorem post_all (c : Dev nD) (t : Fin cfg0.N) : postS m c t ⊢ bodyPost m c t := by
  unfold bodyPost postS scrT
  rw [leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ]
  iintro ⟨⟨⟨⟨HS0, HS1, HS2⟩, HS3, HS4, HS5, HS6, HS7⟩, Hg⟩, Ho, H0, H1, H2, H3, H4, H5, H6, H7, H8, H9, H10, H11⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN := lt12 t
  have W {P : sProp 𝕄} (h : P ⊢ wp frame (wpE (defs₀ (F := Ideal)) Variants.none c none) Set.univ (bodyAt0 t) (fun _ => postS m c t)) (hp : bodyPre m c t ⊢ P) :=
    hp.trans (h.trans (wp_mono _ _ _ fun _ => post_all m c t))
  by_cases h0 : t.val % 6 = 0
  · have hA := bodyA m c t h0 (by omega) (by omega) (by omega)
    by_cases hz : t.val = 0
    · exact W hA (pre_zero m c t hz)
    · exact W hA (pre_first m c t hz)
  · have hp := pre_next m c t h0
    by_cases h1 : t.val / 2 % 3 = 0
    · exact W (bodyB m c t h0 h1 (by omega) (by omega)) hp
    · by_cases h2 : t.val / 2 % 3 = 1
      · exact W (bodyC m c t h0 h1 h2 (by omega)) hp
      · exact W (bodyD m c t h0 h1 h2 (by omega)) hp

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  iexact Hg

theorem hout (c : Dev nD) : (dats m 0 c).Φ (Fin.last cfg0.N) ⊢ Pipeline.ΦA spec0 c :=
  Phi_out m c _ (by rw [Fin.val_last]; have : cfg0.N = 12 := N_0; omega)

set_option backward.isDefEq.respectTransparency.types false in
/-- The launch. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The entry of dq of batch `b`, queries' block `k`, half `s` of the heads, at head `h`, feature `r`, query `i` of those. -/
def dqv (c : Dev nD) (b : Fin 2) (k : Fin 3) (s : Fin 2) (h : Fin 8) (r : Fin 576) (i : Fin 128) : EReal :=
  (Blk.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b k s).DQ (128 * (k.val + 1)) (by omega) h r i

/-- The array of dq. -/
def dqArr (c : Dev nD) : Vec Ideal S2x16x576x384 .bf16 := fun x =>
  dqv m c (x 0) ⟨(x 3).val / 128, by have : (x 3).val < 384 := (x 3).isLt; omega⟩ ⟨(x 1).val / 8, by have : (x 1).val < 16 := (x 1).isLt; omega⟩
    ⟨(x 1).val % 8, by omega⟩ (x 2) ⟨(x 3).val % 128, by omega⟩

theorem dqArr_at (c : Dev nD) (b : Fin 2) (k : Fin 3) (s : Fin 2) (h : Fin 8) (r : Fin 576) (i : Fin 128) (x : S2x16x576x384.Idx)
    (e0 : (x 0).val = b.val) (e1 : (x 1).val = 8 * s.val + h.val) (e2 : (x 2).val = r.val) (e3 : (x 3).val = 128 * k.val + i.val) :
    dqv m c b k s h r i = dqArr m c x := by
  unfold dqArr
  have q0 : b = x 0 := Fin.ext e0.symm
  have q1 : k = ⟨(x 3).val / 128, by have : (x 3).val < 384 := (x 3).isLt; omega⟩ := Fin.ext (by simp only; omega)
  have q2 : s = ⟨(x 1).val / 8, by have : (x 1).val < 16 := (x 1).isLt; omega⟩ := Fin.ext (by simp only; omega)
  have q3 : h = ⟨(x 1).val % 8, by omega⟩ := Fin.ext (by simp only; omega)
  have q4 : r = x 2 := Fin.ext e2.symm
  have q5 : i = ⟨(x 3).val % 128, by omega⟩ := Fin.ext (by simp only; omega)
  rw [← q1, ← q2, ← q3, ← q5, ← q0, ← q4]

/-- The array of dq after the run. -/
theorem final (c : Dev nD) : (dats m 0 c).arrAt 9 (cfgs 0).N = dqArr m c := by
  refine (dats m 0 c).arrAt_eq_of_covers 9 _ (by decide +kernel) fun t _ y => ?_
  have hN := lt12 t
  blk_simp
  rw [after0_9]
  exact dqArr_at m c ⟨t.val / 6, by omega⟩ ⟨t.val / 2 % 3, by omega⟩ ⟨t.val % 2, by omega⟩ (y 1) (y 2) (y 3) _
    (by have : (y 0).val < 1 := (y 0).isLt; blk_simp [idx t] <;> (try simp) <;> (try omega)) (by blk_simp [idx t] <;> (try simp) <;> (try omega)) (by blk_simp [idx t] <;> (try simp) <;> (try omega)) (by blk_simp [idx t] <;> (try simp) <;> (try omega))

end Cert.KernelIdeal.Val

end
-- ==== Proof.Val.KRun.lean ====
module

public import proofs.«01_k».proof.Proof.Val.Run
public import Idealize.ShloMosaic.Lib.Claim

/-! # What the kernel's run leaves

The array of dq after the run, and the arguments as they were. -/

@[expose] public section

set_option maxRecDepth 16384

noncomputable section

namespace Cert.KernelIdeal.Val

open Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result array of dq. -/
theorem run_dq : θ_run defs (onTc (τ := τ) (main (F := Ideal))) ⟨m, fun _ => 0, ρ⟩ (fun r => ∀ c : Dev nD,
    r.2.mem ((c.tc : Thread nD τ).loc main_v10_0) = dqArr m c) :=
  (θ_run defs _ _).mono (fun r h c =>
    ((Pipeline.Dat.toRForget_arrAt_iff (dat := dats m 0 c) (fgt := forgets0) (w := (9 : Fin (cfgs 0).W)) rfl _ _).mp ((h c).1 9)).trans (final m c)) (run_main m ρ)

/-- The frame: the run ends, the arguments are as they were, and every semaphore counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m) (run_main m ρ))
    ((θ_run defs _ _).mono (fun _ h => h.2) (run_main_quiescent m ρ))

end Cert.KernelIdeal.Val

end
-- ==== Proof.Val.RTerm.lean ====
module

public import proofs.«01_k».proof.Proof.Gen.ReferenceIdeal.Frame
public import Idealize.ShloMosaic.Lib.Claim
public import Idealize.ShloMosaic.Lib.Pointwise

/-! # The reference's operations, composed

One definition per quantity of the reference's mathematics, in the reference's own operations. -/

@[expose] public section

set_option maxRecDepth 16384

noncomputable section

namespace Cert.ReferenceIdeal.Val

open Cert.ReferenceIdeal.Gen
open Idealize.ShloMosaic Idealize.ShloMosaic.TcCoe
open Idealize.SL Idealize.SL.Sem

/-- The keys: the compressed part scaled, then the rope part. -/
def rKeys (c : FVec Ideal S2x384x512 .bf16) (cs : FVec Ideal S2x384 .f32) (kr : FVec Ideal S2x384x64 .bf16) : FVec Ideal S2x384x576 .bf16 :=
  concatenate S2x384x576 2 [⟨S2x384x512, mulf c (broadcastInDim S2x384x512 ![0, 1, 2] bcast_S2x384x1_S2x384x512_0_1_2
    (broadcastInDim S2x384x1 ![0, 1] bcast_S2x384_S2x384x1_0_1 (truncf .bf16 cs bitsLt_bf16_f32)))⟩, ⟨S2x384x64, kr⟩]
    concatenates_S2x384x512_S2x384x64_S2x384x576_d2

/-- The row sums of output gradient times output. -/
def rDelta (d : FVec Ideal S2x384x16x512 .bf16) (ds : FVec Ideal S2x384 .f32) (o : FVec Ideal S2x384x16x512 .bf16) : FVec Ideal S2x384x16 .f32 :=
  Host.reduceAdd (mulf (mulf (extf .f32 d bitsLt_bf16_f32) (broadcastInDim S2x384x16x512 ![0, 1, 2, 3] bcast_S2x384x1x1_S2x384x16x512_0_1_2_3
    (broadcastInDim S2x384x1x1 ![0, 1] bcast_S2x384_S2x384x1x1_0_1 ds))) (extf .f32 o bitsLt_bf16_f32)) (constant S_ .f32 0x00000000#32)
    reducesTo_S2x384x16x512_S2x384x16_d3 h_S_

/-- A value per query and head, over all keys. -/
def rRow (x : FVec Ideal S2x384x16 .f32) : FVec Ideal S2x16x384x384 .f32 :=
  broadcastInDim S2x16x384x384 ![0, 1, 2, 3] bcast_S2x16x384x1_S2x16x384x384_0_1_2_3
    (broadcastInDim S2x16x384x1 ![0, 1, 2] bcast_S2x16x384_S2x16x384x1_0_1_2 (transpose S2x16x384 [0, 2, 1] x transposes_S2x384x16_S2x16x384_0_2_1))

/-- The softmax scale. -/
def rScale : FVec Ideal S_ .f32 := Host.divf (constant S_ .f32 0x3F800000#32) (Host.sqrt (constant S_ .f32 0x43400000#32))

/-- The softmax scale everywhere. -/
def rScaleB : FVec Ideal S2x16x384x384 .f32 := broadcastInDim S2x16x384x384 ![] bcast_S_S2x16x384x384 rScale

/-- The keys' scales over batch, head and query. -/
def rKey (cs : FVec Ideal S2x384 .f32) : FVec Ideal S2x1x1x384 .f32 := broadcastInDim S2x1x1x384 ![0, 3] bcast_S2x384_S2x1x1x384_0_3 cs

/-- The scores. -/
def rScore (q : FVec Ideal S2x384x16x576 .bf16) (c : FVec Ideal S2x384x512 .bf16) (kr : FVec Ideal S2x384x64 .bf16)
    (qs : FVec Ideal S2x384x16 .f32) (cs : FVec Ideal S2x384 .f32) : FVec Ideal S2x16x384x384 .f32 :=
  mulf rScaleB (addf
    (mulf (transpose S2x16x384x384 [0, 3, 2, 1] (Host.dotGeneral dot_S2x384x512_S2x384x16x512_S2x384x384x16_2_3_1_12_0_0 none c
        (extractStridedSlice S2x384x16x512 ![0, 0, 0, 0] q slices_S2x384x16x576_S2x384x16x512_0_0_0_0)) transposes_S2x384x384x16_S2x16x384x384_0_3_2_1)
      (mulf (rRow qs) (broadcastInDim S2x16x384x384 ![0, 1, 2, 3] bcast_S2x1x1x384_S2x16x384x384_0_1_2_3 (rKey cs))))
    (mulf (transpose S2x16x384x384 [0, 3, 2, 1] (Host.dotGeneral dot_S2x384x64_S2x384x16x64_S2x384x384x16_2_3_1_12_0_0 none kr
        (extractStridedSlice S2x384x16x64 ![0, 0, 0, 512] q slices_S2x384x16x576_S2x384x16x64_0_0_0_512)) transposes_S2x384x384x16_S2x16x384x384_0_3_2_1)
      (rRow qs)))

/-- Which keys a query sees. -/
def rValid : IVec S384x384 1 :=
  cmpi .sle (broadcastInDim S384x384 ![0, 1] bcast_S1x384_S384x384_0_1 (broadcastInDim S1x384 ![1] bcast_S384_S1x384_1 (iotaInDim S384 32 0)))
    (broadcastInDim S384x384 ![0, 1] bcast_S384x1_S384x384_0_1 (broadcastInDim S384x1 ![0] bcast_S384_S384x1_0 (iotaInDim S384 32 0)))

/-- The probabilities. -/
def rProb (s : FVec Ideal S2x16x384x384 .f32) (lse : FVec Ideal S2x384x16 .f32) : FVec Ideal S2x16x384x384 .f32 :=
  select (broadcastInDim S2x16x384x384 ![2, 3] bcast_S384x384_S2x16x384x384_2_3 rValid) (Host.exp (subf s (rRow lse)))
    (broadcastInDim S2x16x384x384 ![] bcast_S_S2x16x384x384 (constant (F := Ideal) S_ .f32 0x00000000#32))

/-- The products of the output gradient with the keys. -/
def rDP (d : FVec Ideal S2x384x16x512 .bf16) (c : FVec Ideal S2x384x512 .bf16) (ds : FVec Ideal S2x384 .f32) (cs : FVec Ideal S2x384 .f32) :
    FVec Ideal S2x16x384x384 .f32 :=
  mulf (transpose S2x16x384x384 [0, 3, 2, 1] (Host.dotGeneral dot_S2x384x512_S2x384x16x512_S2x384x384x16_2_3_1_12_0_0 none c d) transposes_S2x384x384x16_S2x16x384x384_0_3_2_1)
    (broadcastInDim S2x16x384x384 ![0, 1, 2, 3] bcast_S2x1x384x384_S2x16x384x384_0_1_2_3
      (mulf (broadcastInDim S2x1x384x384 ![0, 1, 2, 3] bcast_S2x1x384x1_S2x1x384x384_0_1_2_3 (broadcastInDim S2x1x384x1 ![0, 2] bcast_S2x384_S2x1x384x1_0_2 ds))
        (broadcastInDim S2x1x384x384 ![0, 1, 2, 3] bcast_S2x1x1x384_S2x1x384x384_0_1_2_3 (rKey cs))))

/-- The score gradients. -/
def rGrad (p dp : FVec Ideal S2x16x384x384 .f32) (dl : FVec Ideal S2x384x16 .f32) : FVec Ideal S2x16x384x384 .f32 :=
  mulf rScaleB (mulf p (subf dp (rRow dl)))

/-- The queries' gradients, laid out as the kernel returns them. -/
def rOut (k : FVec Ideal S2x384x576 .bf16) (g : FVec Ideal S2x16x384x384 .f32) : FVec Ideal S2x16x576x384 .bf16 :=
  transpose S2x16x576x384 [0, 2, 3, 1] (truncf .bf16 (transpose S2x384x16x576 [0, 3, 2, 1]
    (Host.dotGeneral dot_S2x384x576_S2x16x384x384_S2x576x16x384_1_3_2_12_0_0 none k (truncf .bf16 g bitsLt_bf16_f32))
    transposes_S2x576x16x384_S2x384x16x576_0_3_2_1) bitsLt_bf16_f32) transposes_S2x384x16x576_S2x16x576x384_0_2_3_1

/-- The reference's result from the decoded codes and the other arguments. -/
def rAll (q : FVec Ideal S2x384x16x576 .bf16) (c : FVec Ideal S2x384x512 .bf16) (d : FVec Ideal S2x384x16x512 .bf16)
    (qs : FVec Ideal S2x384x16 .f32) (cs : FVec Ideal S2x384 .f32) (kr : FVec Ideal S2x384x64 .bf16) (o : FVec Ideal S2x384x16x512 .bf16)
    (lse : FVec Ideal S2x384x16 .f32) (ds : FVec Ideal S2x384 .f32) : FVec Ideal S2x16x576x384 .bf16 :=
  rOut (rKeys c cs kr) (rGrad (rProb (rScore q c kr qs cs) lse) (rDP d c ds cs) (rDelta d ds o))

end Cert.ReferenceIdeal.Val

end
-- ==== Proof.Val.RRun.lean ====
module

public import proofs.«01_k».proof.Proof.Val.RTerm
public import Idealize.ShloMosaic.Lib.Pipeline.ValueKit

/-! # The reference's run

Its first operation decodes the codes; the others compute its result from the decoded codes and the other arguments. -/

@[expose] public section

set_option maxRecDepth 65536

noncomputable section

namespace Cert.ReferenceIdeal.Val

open Cert.ReferenceIdeal.Gen
open Idealize.ShloMosaic Idealize.ShloMosaic.TcCoe Idealize.ShloMosaic.Tactic
open Idealize.SL Idealize.SL.Sem

set_option maxHeartbeats 16000000 in
/-- The operations after the decoding, composed. -/
theorem tail (W : Valuation τ sig (Elt Ideal)) :
    StableHlo.after [hostOps1, hostOps1_1, hostOps1_2].flatten W (Proc.devRef .tc main_v64)
      = rAll (W (Proc.devRef .tc main_v0_0)) (W (Proc.devRef .tc main_v0_1)) (W (Proc.devRef .tc main_v0_2)) (W (Proc.devRef .tc main_arg1))
        (W (Proc.devRef .tc main_arg3)) (W (Proc.devRef .tc main_arg4)) (W (Proc.devRef .tc main_arg5)) (W (Proc.devRef .tc main_arg6)) (W (Proc.devRef .tc main_arg8)) := by
  simp only [List.flatten_cons, List.flatten_nil, List.append_nil, hostOps1, hostOps1_1, hostOps1_2, List.cons_append, List.nil_append]
  after_results
  rfl

variable (m : (ℓ : Loc nD τ sig) → Buf (Elt Ideal) ℓ) (ρ : Dev nD → PrngReg)

/-- The one point's blocks are the whole arrays. -/
theorem idx : ∀ t : Fin cfg0.N, win0_0.index t = ![0, 0, 0, 0] ∧ win0_1.index t = ![0, 0, 0] ∧ win0_2.index t = ![0, 0, 0, 0]
    ∧ win0_3.index t = ![0, 0, 0, 0] ∧ win0_4.index t = ![0, 0, 0] ∧ win0_5.index t = ![0, 0, 0, 0] := by decide +kernel

/-- The decoded queries. -/
theorem final3 (c : Dev nD) : (dats m 0 c).arrAt 3 (cfgs 0).N = m ((c : Thread nD τ).loc main_arg0) := by
  refine (dats m 0 c).arrAt_eq_of_after_last 3 t0_0 (by decide +kernel) _ fun j => ?_
  blk_simp
  rw [after0_3]
  frame_out
  pointwise [k0_pay1]
  blk_point [iblk, V, idx t0_0]

/-- The decoded keys. -/
theorem final4 (c : Dev nD) : (dats m 0 c).arrAt 4 (cfgs 0).N = m ((c : Thread nD τ).loc main_arg2) := by
  refine (dats m 0 c).arrAt_eq_of_after_last 4 t0_0 (by decide +kernel) _ fun j => ?_
  blk_simp
  rw [after0_4]
  frame_out
  pointwise [k0_pay2]
  blk_point [iblk, V, idx t0_0]

/-- The decoded output gradient. -/
theorem final5 (c : Dev nD) : (dats m 0 c).arrAt 5 (cfgs 0).N = fun x => Ideal.ofBits .fp8e5m2 (m ((c : Thread nD τ).loc main_arg7) x) := by
  refine (dats m 0 c).arrAt_eq_of_after_last 5 t0_0 (by decide +kernel) _ fun j => ?_
  blk_simp
  rw [after0_5]
  frame_out
  pointwise [k0_pay3]
  blk_point [iblk, V, idx t0_0]

/-- The reference's result. -/
theorem run_dq : θ_run defs (onTc (τ := τ) (main (F := Ideal))) ⟨m, fun _ => 0, ρ⟩ (fun r => ∀ c : Dev nD,
    r.2.mem ((c.tc : Thread nD τ).loc main_v64) = rAll (m ((c.tc : Thread nD τ).loc main_arg0)) (m ((c.tc : Thread nD τ).loc main_arg2))
      (fun x => Ideal.ofBits .fp8e5m2 (m ((c : Thread nD τ).loc main_arg7) x)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg8))) := by
  run_from Cert.ReferenceIdeal.Gen.run_main m ρ
  unfold Pipeline.afterTail₀
  rw [tail]
  have w : ∀ w, Pipeline.withArrays (cfgs 0).spec c (V0 m c) (fun w => (dats m 0 c).arrAt w (cfgs 0).N) (Proc.devRef .tc (Pipeline.arrRef (cfgs 0).spec w)) = (dats m 0 c).arrAt w (cfgs 0).N :=
    fun w => Pipeline.withArrays_arr (cfgs 0).spec launch0.win.arr_inj c (V0 m c) _ w
  have n : ∀ b : Ref sig .tc, (∀ w, Pipeline.arrRef (cfgs 0).spec w ≠ b) → Pipeline.withArrays (cfgs 0).spec c (V0 m c) (fun w => (dats m 0 c).arrAt w (cfgs 0).N) (Proc.devRef .tc b) = V0 m c (Proc.devRef .tc b) :=
    fun b hb => Pipeline.withArrays_of_ne (cfgs 0).spec c (V0 m c) _ b hb
  rw [(w 3).trans (final3 m c), (w 4).trans (final4 m c), (w 5).trans (final5 m c)]
  rw [n main_arg1 (by decide), n main_arg3 (by decide), n main_arg4 (by decide), n main_arg5 (by decide), n main_arg6 (by decide), n main_arg8 (by decide)]
  rfl

end Cert.ReferenceIdeal.Val

end
-- ==== Proof.Val.Alg.lean ====
module

public import Idealize.ShloMosaic.Lib.Pointwise

/-! # The arithmetic the two sides differ by

Extended reals: a factor that is nonnegative and finite goes in and out of sums and differences, and the exponential of
base two of a multiple of log2 e is the exponential. -/

@[expose] public section

noncomputable section

namespace Cert.Alg

open Idealize.ShloMosaic

/-- A nonnegative finite factor over a sum. -/
theorem add_mul_fin {c : EReal} (h0 : 0 ≤ c) (ht : c < ⊤) (a b : EReal) : (a + b) * c = a * c + b * c :=
  EReal.right_distrib_of_nonneg_of_ne_top h0 ht.ne a b

/-- A nonnegative finite factor over a difference. -/
theorem sub_mul_fin {c : EReal} (h0 : 0 ≤ c) (ht : c < ⊤) (a b : EReal) : (a - b) * c = a * c - b * c := by
  rw [sub_eq_add_neg, sub_eq_add_neg, add_mul_fin h0 ht, EReal.neg_mul]

/-- A nonnegative finite factor over a finite sum. -/
theorem sum_mul_fin {ι : Type} (s : Finset ι) {c : EReal} (h0 : 0 ≤ c) (ht : c < ⊤) (f : ι → EReal) : (∑ i ∈ s, f i) * c = ∑ i ∈ s, f i * c := by
  classical
  induction s using Finset.induction_on with
  | empty => simp
  | insert a s ha ih => rw [Finset.sum_insert ha, Finset.sum_insert ha, add_mul_fin h0 ht, ih]

theorem log2_pos : 0 < (Real.log 2)⁻¹ := inv_pos.mpr (Real.log_pos one_lt_two)

theorem sigma_pos : 0 < (Real.sqrt 192)⁻¹ := inv_pos.mpr (Real.sqrt_pos.mpr (by norm_num))

theorem coe_nonneg {r : ℝ} (h : 0 < r) : (0 : EReal) ≤ (r : EReal) := by exact_mod_cast h.le

/-- Base two at a multiple of log2 e is base e. -/
theorem exp2_log2 (x : EReal) : Ideal.exp2 (x * (((Real.log 2)⁻¹ : ℝ) : EReal)) = Ideal.exp x := by
  induction x with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show (2 : ℝ) ^ (r * (Real.log 2)⁻¹) = _
    rw [Real.rpow_def_of_pos two_pos, mul_comm r, ← mul_assoc, mul_inv_cancel₀ (Real.log_pos one_lt_two).ne', one_mul]

/-- The probability before the mask, both ways of writing it. -/
theorem prob (sn sr cs qs lse : EReal) (h0 : 0 ≤ qs) (ht : qs < ⊤) :
    Ideal.exp2 ((sn * cs + sr) * (qs * (((Real.sqrt 192)⁻¹ * (Real.log 2)⁻¹ : ℝ) : EReal)) - lse * (((Real.log 2)⁻¹ : ℝ) : EReal))
      = Ideal.exp ((((Real.sqrt 192)⁻¹ : ℝ) : EReal) * (sn * (qs * cs) + sr * qs) - lse) := by
  rw [← exp2_log2, sub_mul_fin (coe_nonneg log2_pos) (EReal.coe_lt_top _)]
  congr 2
  rw [show sn * (qs * cs) + sr * qs = (sn * cs + sr) * qs by rw [add_mul_fin h0 ht]; ac_rfl, EReal.coe_mul]
  ac_rfl

/-- The score gradient, both ways of writing it. -/
theorem grad (p dp cs ds σ dl : EReal) (h0 : 0 ≤ ds) (ht : ds < ⊤) :
    p * ds * ((dp * cs - dl) * σ) = σ * (p * (dp * (ds * cs) - dl * ds)) := by
  rw [show dp * (ds * cs) - dl * ds = (dp * cs - dl) * ds by rw [sub_mul_fin h0 ht]; ac_rfl]
  ac_rfl

/-- The sum over 512 features, 128 lanes of four. -/
theorem sum_lanes (f : Fin 512 → EReal) :
    ∑ l : Fin 128, ((f ⟨128 * 0 + l.val, by omega⟩ + f ⟨128 * 1 + l.val, by omega⟩) + (f ⟨128 * 2 + l.val, by omega⟩ + f ⟨128 * 3 + l.val, by omega⟩)) = ∑ x, f x := by
  rw [Fin.sum_univ_tiles 4 128 rfl f, Finset.sum_comm]
  refine Finset.sum_congr rfl fun l _ => ?_
  rw [Fin.sum_univ_four]
  rw [← add_assoc]
  rfl

/-- Terms past the first `n` that vanish may be left out. -/
theorem sum_first {N : ℕ} (n : ℕ) (hn : n ≤ N) (f : Fin N → EReal) (h : ∀ j : Fin N, n ≤ j.val → f j = 0) :
    ∑ j : Fin n, f ⟨j.val, by omega⟩ = ∑ j, f j := by
  obtain ⟨d, rfl⟩ := Nat.exists_eq_add_of_le hn
  rw [Fin.sum_univ_add, Finset.sum_eq_zero (s := Finset.univ) (f := fun i : Fin d => f (Fin.natAdd n i)) fun i _ => h _ (by simp), add_zero]
  rfl

/-- The softmax scale as the reference computes it. -/
theorem scale : Ideal.div 1 (Ideal.sqrt (Ideal.ofBits FTy.f32 0x43400000#32)) = (((Real.sqrt 192)⁻¹ : ℝ) : EReal) := by
  rw [show Ideal.ofBits FTy.f32 0x43400000#32 = ((192 : ℝ) : EReal) by simp [Ideal.ofBits, Ideal.ieee, -EReal.coe_mul]; norm_num,
    Ideal.sqrt_coe, if_neg (by norm_num), Ideal.div_coe (Real.sqrt_pos.mpr (by norm_num)).ne', one_mul, one_div]

end Cert.Alg

end
-- ==== Proof.Val.RRead.lean ====
module

public import proofs.«01_k».proof.Proof.Val.RTerm
public import proofs.«01_k».proof.Proof.Val.Alg

/-! # The reference's quantities, entry by entry -/

@[expose] public section

set_option maxRecDepth 16384

noncomputable section

namespace Cert.ReferenceIdeal.Val

open Cert.ReferenceIdeal.Gen
open Idealize.ShloMosaic Idealize.ShloMosaic.TcCoe

/-- Choosing by a comparison of two indices. -/
theorem sel_sle (j i : Fin 384) (x : EReal) :
    Scalar.select (IntOp.cmpi CmpIPredicate.sle (BitVec.ofNat 32 j.val) (BitVec.ofNat 32 i.val)) x 0 = if j.val ≤ i.val then x else 0 := by
  have e : (BitVec.ofNat 32 j.val).sle (BitVec.ofNat 32 i.val) = decide (j.val ≤ i.val) := by
    rw [BitVec.sle_eq_decide, BitVec.toInt_eq_toNat_of_lt (by simp; omega), BitVec.toInt_eq_toNat_of_lt (by simp; omega)]
    simp only [BitVec.toNat_ofNat]
    congr 1
    simp only [eq_iff_iff, Nat.cast_le]
    omega
  simp only [Scalar.select, IntOp.cmpi, e]
  by_cases h : j.val ≤ i.val <;> simp [h]

/-- The keys. -/
theorem rKeys_at (c : FVec Ideal S2x384x512 .bf16) (cs : FVec Ideal S2x384 .f32) (kr : FVec Ideal S2x384x64 .bf16) (b : Fin 2) (j : Fin 384) (r : Fin 576) :
    rKeys c cs kr (ix3 b j r) = (if h : r.val < 512 then c (ix3 b j ⟨r.val, h⟩) * cs (ix2 b j) else kr (ix3 b j ⟨r.val - 512, by omega⟩)) := by
  pointwise [rKeys]
/-- The row sums. -/
theorem rDelta_at (d : FVec Ideal S2x384x16x512 .bf16) (ds : FVec Ideal S2x384 .f32) (o : FVec Ideal S2x384x16x512 .bf16) (b : Fin 2) (i : Fin 384) (h : Fin 16) :
    rDelta d ds o (ix3 b i h) = ∑ x, d (ix4 b i h x) * ds (ix2 b i) * o (ix4 b i h x) := by
  pointwise [rDelta]
/-- The scale. -/
theorem rScale_at (x) : rScaleB x = (((Real.sqrt 192)⁻¹ : ℝ) : EReal) := by
  pointwise [rScaleB, rScale]
  exact Alg.scale
/-- The scores. -/
theorem rScore_at (q : FVec Ideal S2x384x16x576 .bf16) (c : FVec Ideal S2x384x512 .bf16) (kr : FVec Ideal S2x384x64 .bf16)
    (qs : FVec Ideal S2x384x16 .f32) (cs : FVec Ideal S2x384 .f32) (b : Fin 2) (h : Fin 16) (i j : Fin 384) :
    rScore q c kr qs cs (ix4 b h i j) = (((Real.sqrt 192)⁻¹ : ℝ) : EReal) *
      ((∑ x : Fin 512, c (ix3 b j x) * q (ix4 b i h ⟨x.val, by omega⟩)) * (qs (ix3 b i h) * cs (ix2 b j)) +
        (∑ x : Fin 64, kr (ix3 b j x) * q (ix4 b i h ⟨512 + x.val, by omega⟩)) * qs (ix3 b i h)) := by
  rw [← rScale_at (ix4 b h i j)]
  pointwise [rScore, rRow, rKey]
/-- The probabilities. -/
theorem rProb_at (s : FVec Ideal S2x16x384x384 .f32) (lse : FVec Ideal S2x384x16 .f32) (b : Fin 2) (h : Fin 16) (i j : Fin 384) :
    rProb s lse (ix4 b h i j) = if j.val ≤ i.val then Ideal.exp (s (ix4 b h i j) - lse (ix3 b i h)) else 0 := by
  pointwise [rProb, rRow, rValid]
  exact sel_sle _ _ _
/-- The products with the output gradient. -/
theorem rDP_at (d : FVec Ideal S2x384x16x512 .bf16) (c : FVec Ideal S2x384x512 .bf16) (ds : FVec Ideal S2x384 .f32) (cs : FVec Ideal S2x384 .f32) (b : Fin 2) (h : Fin 16) (i j : Fin 384) :
    rDP d c ds cs (ix4 b h i j) = (∑ x, c (ix3 b j x) * d (ix4 b i h x)) * (ds (ix2 b i) * cs (ix2 b j)) := by
  pointwise [rDP, rKey]
/-- The score gradients. -/
theorem rGrad_at (p dp : FVec Ideal S2x16x384x384 .f32) (dl : FVec Ideal S2x384x16 .f32) (b : Fin 2) (h : Fin 16) (i j : Fin 384) :
    rGrad p dp dl (ix4 b h i j) = (((Real.sqrt 192)⁻¹ : ℝ) : EReal) * (p (ix4 b h i j) * (dp (ix4 b h i j) - dl (ix3 b i h))) := by
  rw [← rScale_at (ix4 b h i j)]
  pointwise [rGrad, rRow]
/-- The result. -/
theorem rOut_at (k : FVec Ideal S2x384x576 .bf16) (g : FVec Ideal S2x16x384x384 .f32) (b : Fin 2) (h : Fin 16) (r : Fin 576) (i : Fin 384) :
    rOut k g (ix4 b h r i) = ∑ x, k (ix3 b x r) * g (ix4 b h i x) := by
  pointwise [rOut]

end Cert.ReferenceIdeal.Val

end
-- ==== Proof.Val.Join.lean ====
module

public import proofs.«01_k».proof.Proof.Val.Entry
public import proofs.«01_k».proof.Proof.Val.RRead

/-! # The two formulas are equal

Entry by entry, the kernel's sum over the keys its point reads is the reference's sum over all keys. -/

@[expose] public section

set_option maxRecDepth 16384

noncomputable section

namespace Cert.KernelIdeal.Val

open Cert.KernelIdeal.Gen
open Idealize.ShloMosaic Idealize.ShloMosaic.TcCoe

/-- A named constant. -/
theorem cKL_val : cKL = (((Real.sqrt 192)⁻¹ * (Real.log 2)⁻¹ : ℝ) : EReal) := by
  have h : κ "scale_log2e" = some ((((Real.sqrt 192)⁻¹ * (Real.log 2)⁻¹ : ℝ) : EReal)) := rfl
  exact congrArg (fun o : Option EReal => o.getD (Ideal.ofBits .f32 0x3DD53B95#32)) h
/-- A named constant. -/
theorem cL_val : cL = (((Real.log 2)⁻¹ : ℝ) : EReal) := by
  have h : κ "log2e" = some ((((Real.log 2)⁻¹ : ℝ) : EReal)) := rfl
  exact congrArg (fun o : Option EReal => o.getD (Ideal.ofBits .f32 0x3FB8AA3B#32)) h
/-- A named constant. -/
theorem cS_val : cS = (((Real.sqrt 192)⁻¹ : ℝ) : EReal) := by
  have h : κ "scale" = some ((((Real.sqrt 192)⁻¹ : ℝ) : EReal)) := rfl
  exact congrArg (fun o : Option EReal => o.getD (Ideal.ofBits .f32 0x3D93CD3A#32)) h

variable (a0 : FVec Ideal S2x384x16x576 .fp8e4m3) (a1 : FVec Ideal S2x384x16 .f32) (a2 : FVec Ideal S2x384x512 .fp8e4m3)
    (a3 : FVec Ideal S2x384 .f32) (a4 : FVec Ideal S2x384x64 .bf16) (a5 : FVec Ideal S2x384x16x512 .bf16)
    (a6 : FVec Ideal S2x384x16 .f32) (a7 : Vec Ideal S2x384x16x512 .i8) (a8 : FVec Ideal S2x384 .f32)

/-- The decoded output gradient. -/
def dec : FVec Ideal S2x384x16x512 .bf16 := fun x => Ideal.ofBits .fp8e5m2 (a7 x)

/-- The row sums. -/
theorem delta_eq (h8 : ∀ x, 0 ≤ a8 x ∧ a8 x < ⊤) (b : Fin 2) (k : Fin 3) (s : Fin 2) (h : Fin 8) (i : Fin 128) :
    Cert.ReferenceIdeal.Val.rDelta (dec a7) a8 a5 (ix3 b ⟨128 * k.val + i.val, by omega⟩ ⟨8 * s.val + h.val, by omega⟩)
      = (Blk.of a0 a1 a2 a3 a4 a5 a6 a7 a8 b k s).DELTA h i * a8 (ix2 b ⟨128 * k.val + i.val, by omega⟩) := by
  rw [Cert.ReferenceIdeal.Val.rDelta_at]
  have e : (Blk.of a0 a1 a2 a3 a4 a5 a6 a7 a8 b k s).DELTA h i
      = ∑ x : Fin 512, dec a7 (ix4 b ⟨128 * k.val + i.val, by omega⟩ ⟨8 * s.val + h.val, by omega⟩ x)
          * a5 (ix4 b ⟨128 * k.val + i.val, by omega⟩ ⟨8 * s.val + h.val, by omega⟩ x) := by
    rw [← Alg.sum_lanes]
    refine Finset.sum_congr rfl fun l _ => ?_
    have t : ∀ (c : Fin 4) (hc : 128 * c.val + l.val < 512), (Blk.of a0 a1 a2 a3 a4 a5 a6 a7 a8 b k s).dterm h i c l
        = dec a7 (ix4 b ⟨128 * k.val + i.val, by omega⟩ ⟨8 * s.val + h.val, by omega⟩ ⟨128 * c.val + l.val, hc⟩)
          * a5 (ix4 b ⟨128 * k.val + i.val, by omega⟩ ⟨8 * s.val + h.val, by omega⟩ ⟨128 * c.val + l.val, hc⟩) := by
      intro c hc
      have q1 : (⟨8 * s.val + (8 * c.val + h.val) % 8, by omega⟩ : Fin 16) = ⟨8 * s.val + h.val, by omega⟩ := Fin.ext (by simp only; omega)
      have q2 : (⟨128 * ((8 * c.val + h.val) / 8) + l.val, by omega⟩ : Fin 512) = ⟨128 * c.val + l.val, hc⟩ := Fin.ext (by simp only; omega)
      show Ideal.ofBits .fp8e5m2 (a7 (ix4 b _ (⟨8 * s.val + (8 * c.val + h.val) % 8, by omega⟩ : Fin 16) (⟨128 * ((8 * c.val + h.val) / 8) + l.val, by omega⟩ : Fin 512)))
        * a5 (ix4 b _ (⟨8 * s.val + (8 * c.val + h.val) % 8, by omega⟩ : Fin 16) (⟨128 * ((8 * c.val + h.val) / 8) + l.val, by omega⟩ : Fin 512)) = _
      rw [q1, q2]
      rfl
    exact congrArg₂ (· + ·) (congrArg₂ (· + ·) (t 0 _) (t 1 _)) (congrArg₂ (· + ·) (t 2 _) (t 3 _))
  rw [e, Alg.sum_mul_fin _ (h8 _).1 (h8 _).2]
  exact Finset.sum_congr rfl fun x _ => by ac_rfl

/-- The products of the output gradient with the keys. -/
theorem dof_eq (b : Fin 2) (k : Fin 3) (s : Fin 2) (h : Fin 8) (i : Fin 128) (r : Fin 512) :
    (Blk.of a0 a1 a2 a3 a4 a5 a6 a7 a8 b k s).dof h i r = dec a7 (ix4 b ⟨128 * k.val + i.val, by omega⟩ ⟨8 * s.val + h.val, by omega⟩ r) := by
  have q1 : (⟨8 * s.val + (8 * (r.val / 128) + h.val) % 8, by omega⟩ : Fin 16) = ⟨8 * s.val + h.val, by omega⟩ := Fin.ext (by simp only; omega)
  have q2 : (⟨128 * ((8 * (r.val / 128) + h.val) / 8) + r.val % 128, by omega⟩ : Fin 512) = r := Fin.ext (by simp only; omega)
  show Ideal.ofBits .fp8e5m2 (a7 (ix4 b _ (⟨8 * s.val + (8 * (r.val / 128) + h.val) % 8, by omega⟩ : Fin 16) (⟨128 * ((8 * (r.val / 128) + h.val) / 8) + r.val % 128, by omega⟩ : Fin 512))) = _
  rw [q1, q2]
  rfl

/-- The reference's score gradients. -/
def refG : FVec Ideal Cert.ReferenceIdeal.S2x16x384x384 .f32 :=
  Cert.ReferenceIdeal.Val.rGrad (Cert.ReferenceIdeal.Val.rProb (Cert.ReferenceIdeal.Val.rScore a0 a2 a4 a1 a3) a6)
    (Cert.ReferenceIdeal.Val.rDP (dec a7) a2 a8 a3) (Cert.ReferenceIdeal.Val.rDelta (dec a7) a8 a5)

/-- The score gradients. -/
theorem grad_eq (h1 : ∀ x, 0 ≤ a1 x ∧ a1 x < ⊤) (h8 : ∀ x, 0 ≤ a8 x ∧ a8 x < ⊤) (b : Fin 2) (k : Fin 3) (s : Fin 2) (h : Fin 8)
    (i : Fin 128) (j : Fin 384) :
    (Blk.of a0 a1 a2 a3 a4 a5 a6 a7 a8 b k s).G h i j
      = refG a0 a1 a2 a3 a4 a5 a6 a7 a8 (ix4 b ⟨8 * s.val + h.val, by omega⟩ ⟨128 * k.val + i.val, by omega⟩ j) := by
  unfold refG
  rw [Cert.ReferenceIdeal.Val.rGrad_at, Cert.ReferenceIdeal.Val.rProb_at, Cert.ReferenceIdeal.Val.rDP_at, Cert.ReferenceIdeal.Val.rScore_at,
    delta_eq a0 a1 a2 a3 a4 a5 a6 a7 a8 h8, ← Alg.prob _ _ _ _ _ (h1 _).1 (h1 _).2, ← Alg.grad _ _ _ _ _ _ (h8 _).1 (h8 _).2]
  simp only [← dof_eq a0 a1 a2 a3 a4 a5 a6 a7 a8]
  unfold Blk.G Blk.PS Blk.P Blk.PX
  rw [cKL_val, cL_val, cS_val]
  rfl

/-- Past the queries' block the score gradients vanish. -/
theorem grad_zero (B : Blk) (h : Fin 8) (i : Fin 128) (j : Fin 384) (hj : 128 * (B.k + 1) ≤ j.val) : B.G h i j = 0 := by
  unfold Blk.G Blk.PS Blk.P
  rw [if_neg (by omega), zero_mul, zero_mul]

/-- dq, entry by entry. -/
theorem dq_eq (h1 : ∀ x, 0 ≤ a1 x ∧ a1 x < ⊤) (h8 : ∀ x, 0 ≤ a8 x ∧ a8 x < ⊤) (b : Fin 2) (k : Fin 3) (s : Fin 2) (h : Fin 8)
    (r : Fin 576) (i : Fin 128) :
    (Blk.of a0 a1 a2 a3 a4 a5 a6 a7 a8 b k s).DQ (128 * (k.val + 1)) (by omega) h r i
      = Cert.ReferenceIdeal.Val.rAll a0 a2 (dec a7) a1 a3 a4 a5 a6 a8
          (ix4 b ⟨8 * s.val + h.val, by omega⟩ r ⟨128 * k.val + i.val, by omega⟩) := by
  show _ = Cert.ReferenceIdeal.Val.rOut (Cert.ReferenceIdeal.Val.rKeys a2 a3 a4) (refG a0 a1 a2 a3 a4 a5 a6 a7 a8) _
  rw [Cert.ReferenceIdeal.Val.rOut_at]
  unfold Blk.DQ
  rw [Alg.sum_first (N := 384) (128 * (k.val + 1)) (by omega)
    (fun j => (Blk.of a0 a1 a2 a3 a4 a5 a6 a7 a8 b k s).kt r j * (Blk.of a0 a1 a2 a3 a4 a5 a6 a7 a8 b k s).G h i j)
    (fun j hj => by rw [grad_zero _ h i j hj, mul_zero])]
  refine Finset.sum_congr rfl fun j _ => ?_
  rw [grad_eq a0 a1 a2 a3 a4 a5 a6 a7 a8 h1 h8, Cert.ReferenceIdeal.Val.rKeys_at]
  rfl

/-- The array of dq, at any of its indices. -/
theorem all_eq (h1 : ∀ x, 0 ≤ a1 x ∧ a1 x < ⊤) (h8 : ∀ x, 0 ≤ a8 x ∧ a8 x < ⊤) (b : Fin 2) (h : Fin 16) (r : Fin 576) (i : Fin 384) :
    Cert.ReferenceIdeal.Val.rAll a0 a2 (dec a7) a1 a3 a4 a5 a6 a8 (ix4 b h r i)
      = (Blk.of a0 a1 a2 a3 a4 a5 a6 a7 a8 b ⟨i.val / 128, by omega⟩ ⟨h.val / 8, by omega⟩).DQ (128 * (i.val / 128 + 1)) (by omega)
          ⟨h.val % 8, by omega⟩ r ⟨i.val % 128, by omega⟩ := by
  have e1 : (⟨8 * (h.val / 8) + h.val % 8, by omega⟩ : Fin 16) = h := Fin.ext (by simp only; omega)
  have e3 : (⟨128 * (i.val / 128) + i.val % 128, by omega⟩ : Fin 384) = i := Fin.ext (by simp only; omega)
  have := dq_eq a0 a1 a2 a3 a4 a5 a6 a7 a8 h1 h8 b ⟨i.val / 128, by omega⟩ ⟨h.val / 8, by omega⟩ ⟨h.val % 8, by omega⟩ r ⟨i.val % 128, by omega⟩
  simp only [e1, e3] at this
  exact this.symm

end Cert.KernelIdeal.Val

end
-- ==== Proof.Val.Final.lean ====
module

public import proofs.«01_k».proof.Defs
public import proofs.«01_k».proof.Proof.Val.KRun
public import proofs.«01_k».proof.Proof.Val.RRun
public import proofs.«01_k».proof.Proof.Val.Join

/-! # dq is the reference's

What the precondition says of the scales, and the value claim. -/

@[expose] public section

set_option maxRecDepth 16384

noncomputable section

namespace Cert.Proof

open Idealize.ShloMosaic Idealize.ShloMosaic.TcCoe Idealize.ShloMosaic.Tactic
open Idealize.SL Idealize.SL.Sem

/-- The precondition's shape facts. -/
theorem facts_pre : Cert.Pre_scales.Facts where
  bcast_S_S2x384x16 := by decide
  reducesTo_S2x384x16_S_d0_1_2 := by decide
  h_S_ := by decide
  bcast_S_S2x384 := by decide
  reducesTo_S2x384_S_d0_1 := by decide

section
open Cert.KernelIdeal Cert.KernelIdeal.Gen Cert.KernelIdeal.Val

/-- A conjunction over a finite set that holds, holds at each. -/
theorem fold_andi {ι : Type} (s : Finset ι) (f : ι → BitVec 1) (h : Finset.fold IntOp.andi 1#1 f s = 1#1) : ∀ a ∈ s, f a = 1#1 := by
  classical
  have key : ∀ c d : BitVec 1, IntOp.andi c d = 1#1 → c = 1#1 ∧ d = 1#1 := by decide
  induction s using Finset.induction_on with
  | empty => intro a ha; simp at ha
  | insert b s hb ih =>
    rw [Finset.fold_insert hb] at h
    obtain ⟨h1, h2⟩ := key _ _ h
    intro a ha
    rcases Finset.mem_insert.mp ha with e | e
    · exact e ▸ h1
    · exact ih h2 a e

/-- The infinite f32. -/
theorem inf_val : Ideal.ofBits FTy.f32 0x7F800000#32 = ⊤ := by simp [Ideal.ofBits, Ideal.ieee]

/-- What both comparisons say. -/
theorem cmp_open (x : EReal) (h : IntOp.andi (BitVec.ofBool (decide (0 ≤ x))) (BitVec.ofBool (decide (x < Ideal.ofBits FTy.f32 0x7F800000#32))) = 1#1) :
    0 ≤ x ∧ x < ⊤ := by
  rw [inf_val] at h
  by_cases h1 : 0 ≤ x <;> by_cases h2 : x < ⊤ <;> simp [h1, h2, IntOp.andi] at h ⊢

/-- The precondition: the queries' and the output gradient's scales are nonnegative and finite. -/
theorem pre_open [Cert.Pre_scales.Facts] (a0 : FVec Ideal S2x384x16x576 .fp8e4m3) (a1 : FVec Ideal S2x384x16 .f32) (a2 : FVec Ideal S2x384x512 .fp8e4m3)
    (a3 : FVec Ideal S2x384 .f32) (a4 : FVec Ideal S2x384x64 .bf16) (a5 : FVec Ideal S2x384x16x512 .bf16)
    (a6 : FVec Ideal S2x384x16 .f32) (a7 : Vec Ideal S2x384x16x512 .i8) (a8 : FVec Ideal S2x384 .f32)
    (h : Cert.Pre_scales.fn a0 a1 a2 a3 a4 a5 a6 a7 a8 = fun _ => 1#1) :
    (∀ x, 0 ≤ a1 x ∧ a1 x < ⊤) ∧ (∀ x, 0 ≤ a8 x ∧ a8 x < ⊤) := by
  have h' := congrFun h ix0
  pointwise [Cert.Pre_scales.fn] at h'
  have key : ∀ c d : BitVec 1, IntOp.andi c d = 1#1 → c = 1#1 ∧ d = 1#1 := by decide
  obtain ⟨p1, p8⟩ := key _ _ h'
  refine ⟨fun x => ?_, fun x => ?_⟩
  · have := cmp_open _ (fold_andi _ _ p1 (x 0, x 1, x 2) (Finset.mem_univ _))
    rwa [← eq_ix3 x] at this
  · have := cmp_open _ (fold_andi _ _ p8 (x 0, x 1) (Finset.mem_univ _))
    rwa [← eq_ix2 x] at this

/-- The array the kernel leaves is the reference's result. -/
theorem dqArr_eq (m : (ℓ : Loc nD τ sig) → Buf (Elt Ideal) ℓ) (c : Dev nD) (a1 : FVec Ideal S2x384x16 .f32) (a8 : FVec Ideal S2x384 .f32)
    (e1 : m ((c : Thread nD τ).loc main_arg1) = a1) (e8 : m ((c : Thread nD τ).loc main_arg8) = a8)
    (h1 : ∀ x, 0 ≤ a1 x ∧ a1 x < ⊤) (h8 : ∀ x, 0 ≤ a8 x ∧ a8 x < ⊤) :
    Cert.ReferenceIdeal.Val.rAll (m ((c : Thread nD τ).loc main_arg0)) (m ((c : Thread nD τ).loc main_arg2)) (dec (m ((c : Thread nD τ).loc main_arg7)))
      a1 (m ((c : Thread nD τ).loc main_arg3)) (m ((c : Thread nD τ).loc main_arg4)) (m ((c : Thread nD τ).loc main_arg5))
      (m ((c : Thread nD τ).loc main_arg6)) a8 = dqArr m c := by
  subst e1 e8
  funext x
  rw [eq_ix4 x]
  exact all_eq _ _ _ _ _ _ _ _ _ h1 h8 (x 0) (x 1) (x 2) (x 3)

end

/-- The value claim. -/
theorem algebraic [Cert.Pre_scales.Facts] : Cert.algebraic_KernelIdeal_ReferenceIdeal_pre_scales := by
  intro m g m' g' hpre hagree
  refine ⟨fun c => Cert.KernelIdeal.Val.dqArr m c, ?_, ?_⟩
  · refine (θ_run _ _ _).mono (fun r h c => ?_) (θ_run_and (Cert.KernelIdeal.Val.run_dq m g) (Cert.KernelIdeal.Val.frame m g))
    exact ⟨h.1 c, h.2.1 c⟩
  · refine (θ_run _ _ _).mono (fun r h c => ?_) (θ_run_and (Cert.ReferenceIdeal.Val.run_dq m' g') (Cert.ReferenceIdeal.Gen.frame m' g'))
    refine ⟨(h.1 c).trans ?_, h.2.1 c⟩
    obtain ⟨h1, h8⟩ := pre_open _ _ _ _ _ _ _ _ _ (hpre c)
    obtain ⟨q0, q1, q2, q3, q4, q5, q6, q7, q8⟩ := hagree c
    rw [q0, q1, q2, q3, q4, q5, q6, q7, q8]
    exact dqArr_eq m c _ _ rfl rfl h1 h8

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Frame.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Val.Final
public import Idealize.ShloMosaic.Adequacy
public import Idealize.ShloMosaic.Init

@[expose] public section

noncomputable section

namespace Cert.Proof

open Idealize.ShloMosaic Idealize.SL.Sem Cert.Kernel

/-- The three named constants (the softmax scale, `log₂ e` and their product) satisfy the rule's statement. -/
theorem preserves : Cert.preserves_Kernel_KernelIdeal :=
  ⟨IdealRules.named_const.statement Cert.KernelIdeal.κ "scale_log2e" .f32 0x3DD53B95#32
      (((Real.sqrt 192)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "scale" .f32 0x3D93CD3A#32 (((Real.sqrt 192)⁻¹ : ℝ) : EReal) rfl⟩

theorem claim : Cert.Claim := ⟨Cert.Kernel.Gen.facts, Cert.KernelIdeal.Gen.facts, Cert.ReferenceIdeal.Gen.facts, facts_pre,
  fun m ρ _ => Cert.Kernel.Gen.frame m ρ, fun m ρ _ => Cert.KernelIdeal.Val.frame m ρ, fun m ρ _ => Cert.KernelIdeal.Val.frame m ρ,
  fun m ρ _ => Cert.ReferenceIdeal.Gen.frame m ρ, fun m ρ _ => Cert.ReferenceIdeal.Gen.frame m ρ, preserves,
  @algebraic facts_pre⟩

end Cert.Proof

end
